-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_agree [hPre_rows_agree : Cert.Pre_rows_agree.Facts] (m : (ℓ : Loc Cert.KernelIdeal.nD Cert.KernelIdeal.τ Cert.KernelIdeal.sig) → Buf (Elt Ideal) ℓ) : Prop :=
  ∀ c : Dev Cert.KernelIdeal.nD,
    (Cert.Pre_rows_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_agree [hPre_rows_agree : Cert.Pre_rows_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_rows_agree [hKernelIdeal : Cert.KernelIdeal.Facts] [hPre_rows_agree : Cert.Pre_rows_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_agree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_rows_agree [hReferenceIdeal : Cert.ReferenceIdeal.Facts] [hPre_rows_agree : Cert.Pre_rows_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "rope_exponent" .f32 0xBD5D0C55#32 ((-((Real.log 1000000) * (1 / 256)) : ℝ) : EReal)

def algebraic_KernelIdeal_ReferenceIdeal_pre_rows_agree [hKernelIdeal : Cert.KernelIdeal.Facts] [hReferenceIdeal : Cert.ReferenceIdeal.Facts] [hPre_rows_agree : Cert.Pre_rows_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_rows_agree : Cert.Pre_rows_agree.Facts),
    quiescent_Kernel (hKernel := hKernel)
    ∧ quiescent_KernelIdeal (hKernelIdeal := hKernelIdeal)
    ∧ quiescent_KernelIdeal_pre_rows_agree (hKernelIdeal := hKernelIdeal) (hPre_rows_agree := hPre_rows_agree)
    ∧ quiescent_ReferenceIdeal (hReferenceIdeal := hReferenceIdeal)
    ∧ quiescent_ReferenceIdeal_pre_rows_agree (hReferenceIdeal := hReferenceIdeal) (hPre_rows_agree := hPre_rows_agree)
    ∧ preserves_Kernel_KernelIdeal
    ∧ algebraic_KernelIdeal_ReferenceIdeal_pre_rows_agree (hKernelIdeal := hKernelIdeal) (hReferenceIdeal := hReferenceIdeal) (hPre_rows_agree := hPre_rows_agree)
-- ==== Pre_rows_agree.lean ====
abbrev S2x4096x16x128 : Shape := ⟨4, ![2, 4096, 16, 128]⟩
abbrev S2x4096x8x128 : Shape := ⟨4, ![2, 4096, 8, 128]⟩
abbrev S2x4096x2048 : Shape := ⟨3, ![2, 4096, 2048]⟩
abbrev S2x4096 : Shape := ⟨2, ![2, 4096]⟩
abbrev S4x512x512 : Shape := ⟨3, ![4, 512, 512]⟩
abbrev S12x2048 : Shape := ⟨2, ![12, 2048]⟩
abbrev S12 : Shape := ⟨1, ![12]⟩
abbrev S2048x2 : Shape := ⟨2, ![2048, 2]⟩
abbrev S512 : Shape := ⟨1, ![512]⟩
abbrev S1x4096 : Shape := ⟨2, ![1, 4096]⟩

class Facts : Prop where
  slices_S2x4096_S1x4096_0_0 : S2x4096.Slices ![0, 0] S1x4096
  bcast_S1x4096_S2x4096_0_1 : S1x4096.BroadcastsInDim S2x4096 (![0, 1] : Fin 2 → Fin S2x4096.rank)

variable [Facts]

def fn {F : FTy → Type} [FloatOps F] (main_arg0 : FVec F S2x4096x16x128 .f32) (main_arg1 : FVec F S2x4096x8x128 .f32) (main_arg2 : FVec F S2x4096x8x128 .f32) (main_arg3 : FVec F S2x4096x2048 .f32) (main_arg4 : IVec S2x4096 32) (main_arg5 : FVec F S4x512x512 .f32) (main_arg6 : FVec F S4x512x512 .f32) (main_arg7 : FVec F S4x512x512 .f32) (main_arg8 : FVec F S12x2048 .f32) (main_arg9 : FVec F S12 .f32) (main_arg10 : FVec F S2048x2 .f32) (main_arg11 : FVec F S2048x2 .f32) (main_arg12 : FVec F S512 .f32) (main_arg13 : FVec F S512 .f32) (main_arg14 : FVec F S512 .f32) : IVec S2x4096 1 :=
  let main_v0 : IVec S1x4096 32 := (extractStridedSlice S1x4096 ![0, 0] · slices_S2x4096_S1x4096_0_0) main_arg4
  let main_v1 : IVec S2x4096 32 := broadcastInDim S2x4096 ![0, 1] bcast_S1x4096_S2x4096_0_1 main_v0
  let main_v2 : IVec S2x4096 1 := cmpi .eq main_arg4 main_v1
  main_v2
-- ==== Kernel.lean ====
abbrev S2x4096x16x128 : Shape := ⟨4, ![2, 4096, 16, 128]⟩
abbrev S2x4096x8x128 : Shape := ⟨4, ![2, 4096, 8, 128]⟩
abbrev S2x4096x2048 : Shape := ⟨3, ![2, 4096, 2048]⟩
abbrev S2x4096 : Shape := ⟨2, ![2, 4096]⟩
abbrev S4x512x512 : Shape := ⟨3, ![4, 512, 512]⟩
abbrev S12x2048 : Shape := ⟨2, ![12, 2048]⟩
abbrev S12 : Shape := ⟨1, ![12]⟩
abbrev S2048x2 : Shape := ⟨2, ![2048, 2]⟩
abbrev S512 : Shape := ⟨1, ![512]⟩
abbrev S2x4096x1024 : Shape := ⟨3, ![2, 4096, 1024]⟩
abbrev S3x4x2048 : Shape := ⟨3, ![3, 4, 2048]⟩
abbrev S4x3x2048 : Shape := ⟨3, ![4, 3, 2048]⟩
abbrev S3x4 : Shape := ⟨2, ![3, 4]⟩
abbrev S4x3 : Shape := ⟨2, ![4, 3]⟩
abbrev S1x12 : Shape := ⟨2, ![1, 12]⟩
abbrev S2x2048 : Shape := ⟨2, ![2, 2048]⟩
abbrev S1x512 : Shape := ⟨2, ![1, 512]⟩
abbrev S1x4096 : Shape := ⟨2, ![1, 4096]⟩
abbrev S4096 : Shape := ⟨1, ![4096]⟩
abbrev S4096x1 : Shape := ⟨2, ![4096, 1]⟩
abbrev S4096x256 : Shape := ⟨2, ![4096, 256]⟩
abbrev S2x4x4096x3 : Shape := ⟨4, ![2, 4, 4096, 3]⟩
abbrev S512x1 : Shape := ⟨2, ![512, 1]⟩
abbrev S512x256 : Shape := ⟨2, ![512, 256]⟩
abbrev S1x256 : Shape := ⟨2, ![1, 256]⟩
abbrev S1x1024x2048 : Shape := ⟨3, ![1, 1024, 2048]⟩
abbrev S1x4x1024x3 : Shape := ⟨4, ![1, 4, 1024, 3]⟩
abbrev S1024x2048 : Shape := ⟨2, ![1024, 2048]⟩
abbrev S1024x12 : Shape := ⟨2, ![1024, 12]⟩
abbrev S1024x3 : Shape := ⟨2, ![1024, 3]⟩
abbrev S1x1x1024x3 : Shape := ⟨4, ![1, 1, 1024, 3]⟩
abbrev S1x2048x512 : Shape := ⟨3, ![1, 2048, 512]⟩
abbrev S1x2048x256 : Shape := ⟨3, ![1, 2048, 256]⟩
abbrev S1x1x2048x3 : Shape := ⟨4, ![1, 1, 2048, 3]⟩
abbrev S2048x256 : Shape := ⟨2, ![2048, 256]⟩
abbrev S1x512x512 : Shape := ⟨3, ![1, 512, 512]⟩
abbrev S2x512 : Shape := ⟨2, ![2, 512]⟩
abbrev S512x512 : Shape := ⟨2, ![512, 512]⟩
abbrev S2048x512 : Shape := ⟨2, ![2048, 512]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S1x1x2048x1 : Shape := ⟨4, ![1, 1, 2048, 1]⟩

abbrev nBuf : Space → Nat
  | .hbm => 36
  | .vmem => 42
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x8x128, .f32⟩
  | .hbm, ⟨2, _⟩ => ⟨S2x4096x8x128, .f32⟩
  | .hbm, ⟨3, _⟩ => ⟨S2x4096x2048, .f32⟩
  | .hbm, ⟨4, _⟩ => ⟨S2x4096, .i32⟩
  | .hbm, ⟨5, _⟩ => ⟨S4x512x512, .f32⟩
  | .hbm, ⟨6, _⟩ => ⟨S4x512x512, .f32⟩
  | .hbm, ⟨7, _⟩ => ⟨S4x512x512, .f32⟩
  | .hbm, ⟨8, _⟩ => ⟨S12x2048, .f32⟩
  | .hbm, ⟨9, _⟩ => ⟨S12, .f32⟩
  | .hbm, ⟨10, _⟩ => ⟨S2048x2, .f32⟩
  | .hbm, ⟨11, _⟩ => ⟨S2048x2, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S2x4096x2048, .f32⟩
  | .hbm, ⟨16, _⟩ => ⟨S2x4096x1024, .f32⟩
  | .hbm, ⟨17, _⟩ => ⟨S2x4096x1024, .f32⟩
  | .hbm, ⟨18, _⟩ => ⟨S3x4x2048, .f32⟩
  | .hbm, ⟨19, _⟩ => ⟨S4x3x2048, .f32⟩
  | .hbm, ⟨20, _⟩ => ⟨S12x2048, .f32⟩
  | .hbm, ⟨21, _⟩ => ⟨S3x4, .f32⟩
  | .hbm, ⟨22, _⟩ => ⟨S4x3, .f32⟩
  | .hbm, ⟨23, _⟩ => ⟨S1x12, .f32⟩
  | .hbm, ⟨24, _⟩ => ⟨S2x2048, .f32⟩
  | .hbm, ⟨25, _⟩ => ⟨S2x2048, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x4096, .i32⟩
  | .hbm, ⟨30, _⟩ => ⟨S4096, .i32⟩
  | .hbm, ⟨31, _⟩ => ⟨S4096x1, .i32⟩
  | .hbm, ⟨32, _⟩ => ⟨S4096x256, .bf16⟩
  | .hbm, ⟨33, _⟩ => ⟨S4096x256, .bf16⟩
  | .hbm, ⟨34, _⟩ => ⟨S2x4x4096x3, .f32⟩
  | .hbm, ⟨35, _⟩ => ⟨S2x4096x2048, .f32⟩
  | .local _ .vmem, ⟨0, _⟩ => ⟨S512x1, .i32⟩
  | .local _ .vmem, ⟨1, _⟩ => ⟨S512x1, .i32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S1x1024x2048, .f32⟩
  | .local _ .vmem, ⟨7, _⟩ => ⟨S1x1024x2048, .f32⟩
  | .local _ .vmem, ⟨8, _⟩ => ⟨S12x2048, .f32⟩
  | .local _ .vmem, ⟨9, _⟩ => ⟨S1x12, .f32⟩
  | .local _ .vmem, ⟨10, _⟩ => ⟨S1x4x1024x3, .f32⟩
  | .local _ .vmem, ⟨11, _⟩ => ⟨S1x4x1024x3, .f32⟩
  | .local _ .vmem, ⟨12, _⟩ => ⟨S1x2048x512, .f32⟩
  | .local _ .vmem, ⟨13, _⟩ => ⟨S1x2048x512, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x1x2048x3, .f32⟩
  | .local _ .vmem, ⟨19, _⟩ => ⟨S1x1x2048x3, .f32⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S2x512, .f32⟩
  | .local _ .vmem, ⟨31, _⟩ => ⟨S2x512, .f32⟩
  | .local _ .vmem, ⟨32, _⟩ => ⟨S2x512, .f32⟩
  | .local _ .vmem, ⟨33, _⟩ => ⟨S2x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x2048x512, .f32⟩
  | .local _ .vmem, ⟨38, _⟩ => ⟨S1x2048x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17_0 : Ref sig .tc := ⟨.hbm, 32, rfl⟩
abbrev main_call0_v17_1 : Ref sig .tc := ⟨.hbm, 33, rfl⟩
abbrev main_call0_v18 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc2_stg10_0 : Ref sig .tc := ⟨.vmem, 32, rfl⟩
abbrev cc2_stg10_1 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg14_0 : Ref sig .tc := ⟨.vmem, 37, rfl⟩
abbrev cc2_stg14_1 : Ref sig .tc := ⟨.vmem, 38, rfl⟩
abbrev cc2_scratch0 : Ref sig .tc := ⟨.vmem, 39, rfl⟩
abbrev cc2_scratch1 : Ref sig .tc := ⟨.vmem, 40, rfl⟩
abbrev cc2_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29
abbrev cc2_sem9_0 : DmaSem sig := 30
abbrev cc2_sem9_1 : DmaSem sig := 31
abbrev cc2_sem10_0 : DmaSem sig := 32
abbrev cc2_sem10_1 : DmaSem sig := 33
abbrev cc2_sem11_0 : DmaSem sig := 34
abbrev cc2_sem12_0 : DmaSem sig := 35
abbrev cc2_sem13_0 : DmaSem sig := 36
abbrev cc2_sem14_0 : DmaSem sig := 37
abbrev cc2_sem14_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x12 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4x1024x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 2, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg1 c1_i32_3
  let v11 : BitVec 32 := Scalar.addi v10 arg2
  let c2_i32_4 : BitVec 32 := 2#32
  let v12 : BitVec 32 := Scalar.divsi arg0 c2_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi arg0 c2_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![v9.toNat, v11.toNat, v28.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg1 c1_i32_3
  let v11 : BitVec 32 := Scalar.addi v10 arg2
  let c2_i32_4 : BitVec 32 := 2#32
  let v12 : BitVec 32 := Scalar.divsi arg0 c2_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi arg0 c2_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![v9.toNat, v11.toNat, v28.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg1 c1_i32_3
  let v11 : BitVec 32 := Scalar.addi v10 arg2
  let c2_i32_4 : BitVec 32 := 2#32
  let v12 : BitVec 32 := Scalar.divsi arg0 c2_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi arg0 c2_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![v9.toNat, v11.toNat, v28.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.muli arg1 c1_i32_10
  let v28 : BitVec 32 := Scalar.addi v27 arg2
  let c0_i32_11 : BitVec 32 := 0#32
  let c0_i32_12 : BitVec 32 := 0#32
  ![v9.toNat, v26.toNat, v28.toNat, c0_i32_11.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![v1.toNat, c0_i32.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_8 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc2_transform_11 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg1 c1_i32_3
  let v11 : BitVec 32 := Scalar.addi v10 arg2
  let c2_i32_4 : BitVec 32 := 2#32
  let v12 : BitVec 32 := Scalar.divsi arg0 c2_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi arg0 c2_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![v9.toNat, v11.toNat, v28.toNat]

abbrev stage2_0 : Fin 2 → Memref sig .tc .vmem S1x2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x1x2048x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, true]

abbrev stage2_5 : Fin 2 → Memref sig .tc .vmem S2048x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, true]

abbrev stage2_6 : Fin 2 → Memref sig .tc .vmem S1x512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

abbrev stage2_7 : Fin 2 → Memref sig .tc .vmem S1x512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false, false]

abbrev stage2_8 : Fin 2 → Memref sig .tc .vmem S1x512x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false, false]

abbrev stage2_9 : Fin 2 → Memref sig .tc .vmem S2x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false, false]

abbrev stage2_10 : Fin 2 → Memref sig .tc .vmem S2x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false, false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false, false]

abbrev stage2_12 : Fin 1 → Memref sig .tc .vmem S1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false, false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false, false]

abbrev stage2_14 : Fin 2 → Memref sig .tc .vmem S1x2048x512 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true, true]
-- ==== KernelIdeal.lean ====
variable {F : FTy → Type} [FloatOps F] [Named F]
def κ : String → Option EReal := fun
  | "rope_exponent" => some ((-((Real.log 1000000) * (1 / 256)) : ℝ) : EReal)
  | _ => none
-- ==== ReferenceIdeal.lean ====
abbrev S2x4096x16x128 : Shape := ⟨4, ![2, 4096, 16, 128]⟩
abbrev S2x4096x8x128 : Shape := ⟨4, ![2, 4096, 8, 128]⟩
abbrev S2x4096x2048 : Shape := ⟨3, ![2, 4096, 2048]⟩
abbrev S2x4096 : Shape := ⟨2, ![2, 4096]⟩
abbrev S4x512x512 : Shape := ⟨3, ![4, 512, 512]⟩
abbrev S12x2048 : Shape := ⟨2, ![12, 2048]⟩
abbrev S12 : Shape := ⟨1, ![12]⟩
abbrev S2048x2 : Shape := ⟨2, ![2048, 2]⟩
abbrev S512 : Shape := ⟨1, ![512]⟩
abbrev S2x4096x8x1x128 : Shape := ⟨5, ![2, 4096, 8, 1, 128]⟩
abbrev S2x4096x8x2x128 : Shape := ⟨5, ![2, 4096, 8, 2, 128]⟩
abbrev S2x4096x4x512 : Shape := ⟨4, ![2, 4096, 4, 512]⟩
abbrev S2048x1 : Shape := ⟨2, ![2048, 1]⟩
abbrev S2048 : Shape := ⟨1, ![2048]⟩
abbrev S1x1x2048 : Shape := ⟨3, ![1, 1, 2048]⟩
abbrev S_ : Shape := ⟨0, ![]⟩
abbrev S2x4096x4 : Shape := ⟨3, ![2, 4096, 4]⟩
abbrev S2x4096x4x1 : Shape := ⟨4, ![2, 4096, 4, 1]⟩
abbrev S1x1x1x512 : Shape := ⟨4, ![1, 1, 1, 512]⟩
abbrev S256 : Shape := ⟨1, ![256]⟩
abbrev S2x4096x1 : Shape := ⟨3, ![2, 4096, 1]⟩
abbrev S1x1x256 : Shape := ⟨3, ![1, 1, 256]⟩
abbrev S2x4096x256 : Shape := ⟨3, ![2, 4096, 256]⟩
abbrev S2x4096x512 : Shape := ⟨3, ![2, 4096, 512]⟩
abbrev S2x4096x1x512 : Shape := ⟨4, ![2, 4096, 1, 512]⟩
abbrev S2x4096x4x256 : Shape := ⟨4, ![2, 4096, 4, 256]⟩
abbrev S2x4096x12 : Shape := ⟨3, ![2, 4096, 12]⟩
abbrev S1x1x12 : Shape := ⟨3, ![1, 1, 12]⟩
abbrev S2x4096x3x4x1 : Shape := ⟨5, ![2, 4096, 3, 4, 1]⟩
abbrev S2x4096x1x4x1 : Shape := ⟨5, ![2, 4096, 1, 4, 1]⟩
abbrev S2x4x4096x1 : Shape := ⟨4, ![2, 4, 4096, 1]⟩
abbrev S2x4x2x2048x1 : Shape := ⟨5, ![2, 4, 2, 2048, 1]⟩
abbrev S2x2x4x2048x1 : Shape := ⟨5, ![2, 2, 4, 2048, 1]⟩
abbrev S2x4x4096x512 : Shape := ⟨4, ![2, 4, 4096, 512]⟩
abbrev S2x4x2x2048x512 : Shape := ⟨5, ![2, 4, 2, 2048, 512]⟩
abbrev S2x2x4x2048x512 : Shape := ⟨5, ![2, 2, 4, 2048, 512]⟩
abbrev S2x4x512x512 : Shape := ⟨4, ![2, 4, 512, 512]⟩
abbrev S1x2x4x2048x512 : Shape := ⟨5, ![1, 2, 4, 2048, 512]⟩
abbrev S2x4x2048x512 : Shape := ⟨4, ![2, 4, 2048, 512]⟩
abbrev S1x2x4x2048x1 : Shape := ⟨5, ![1, 2, 4, 2048, 1]⟩
abbrev S2x4x2048x1 : Shape := ⟨4, ![2, 4, 2048, 1]⟩

abbrev nBuf : Space → Nat
  | .hbm => 367
  | .vmem => 0
  | .smem => 0
  | _ => 0

abbrev hbmTy0_0 (i : Nat) : BufTy := match i % 128 with
  | 0 => ⟨S2x4096x16x128, .f32⟩
  | 1 => ⟨S2x4096x8x128, .f32⟩
  | 2 => ⟨S2x4096x8x128, .f32⟩
  | 3 => ⟨S2x4096x2048, .f32⟩
  | 4 => ⟨S2x4096, .i32⟩
  | 5 => ⟨S4x512x512, .f32⟩
  | 6 => ⟨S4x512x512, .f32⟩
  | 7 => ⟨S4x512x512, .f32⟩
  | 8 => ⟨S12x2048, .f32⟩
  | 9 => ⟨S12, .f32⟩
  | 10 => ⟨S2048x2, .f32⟩
  | 11 => ⟨S2048x2, .f32⟩
  | 12 => ⟨S512, .f32⟩
  | 13 => ⟨S512, .f32⟩
  | 14 => ⟨S512, .f32⟩
  | 15 => ⟨S2x4096x8x1x128, .f32⟩
  | 16 => ⟨S2x4096x8x2x128, .f32⟩
  | 17 => ⟨S2x4096x2048, .f32⟩
  | 18 => ⟨S2x4096x8x1x128, .f32⟩
  | 19 => ⟨S2x4096x8x2x128, .f32⟩
  | 20 => ⟨S2x4096x4x512, .f32⟩
  | 21 => ⟨S2x4096x2048, .f32⟩
  | 22 => ⟨S2048x1, .f32⟩
  | 23 => ⟨S2048, .f32⟩
  | 24 => ⟨S1x1x2048, .f32⟩
  | 25 => ⟨S2x4096x2048, .f32⟩
  | 26 => ⟨S2x4096x2048, .f32⟩
  | 27 => ⟨S2048x1, .f32⟩
  | 28 => ⟨S2048, .f32⟩
  | 29 => ⟨S1x1x2048, .f32⟩
  | 30 => ⟨S2x4096x2048, .f32⟩
  | 31 => ⟨S2x4096x2048, .f32⟩
  | 32 => ⟨S2048x1, .f32⟩
  | 33 => ⟨S2048, .f32⟩
  | 34 => ⟨S1x1x2048, .f32⟩
  | 35 => ⟨S2x4096x2048, .f32⟩
  | 36 => ⟨S2x4096x2048, .f32⟩
  | 37 => ⟨S2048x1, .f32⟩
  | 38 => ⟨S2048, .f32⟩
  | 39 => ⟨S1x1x2048, .f32⟩
  | 40 => ⟨S2x4096x2048, .f32⟩
  | 41 => ⟨S2x4096x2048, .f32⟩
  | 42 => ⟨S2x4096x4x512, .f32⟩
  | 43 => ⟨S2x4096x4x512, .f32⟩
  | 44 => ⟨S2x4096x4x512, .f32⟩
  | 45 => ⟨S_, .f32⟩
  | 46 => ⟨S2x4096x4, .f32⟩
  | 47 => ⟨S2x4096x4x1, .f32⟩
  | 48 => ⟨S_, .f32⟩
  | 49 => ⟨S2x4096x4x1, .f32⟩
  | 50 => ⟨S2x4096x4x1, .f32⟩
  | 51 => ⟨S_, .f32⟩
  | 52 => ⟨S2x4096x4x1, .f32⟩
  | 53 => ⟨S2x4096x4x1, .f32⟩
  | 54 => ⟨S2x4096x4x1, .f32⟩
  | 55 => ⟨S2x4096x4x512, .f32⟩
  | 56 => ⟨S2x4096x4x512, .f32⟩
  | 57 => ⟨S1x1x1x512, .f32⟩
  | 58 => ⟨S2x4096x4x512, .f32⟩
  | 59 => ⟨S2x4096x4x512, .f32⟩
  | 60 => ⟨S2x4096x4x512, .f32⟩
  | 61 => ⟨S2x4096x4x512, .f32⟩
  | 62 => ⟨S_, .f32⟩
  | 63 => ⟨S2x4096x4x512, .f32⟩
  | 64 => ⟨S2x4096x4x512, .f32⟩
  | 65 => ⟨S_, .f32⟩
  | 66 => ⟨S2x4096x4x512, .f32⟩
  | 67 => ⟨S2x4096x4x512, .f32⟩
  | 68 => ⟨S2x4096x4x512, .f32⟩
  | 69 => ⟨S2x4096x4x512, .f32⟩
  | 70 => ⟨S_, .f32⟩
  | 71 => ⟨S2x4096x4, .f32⟩
  | 72 => ⟨S2x4096x4x1, .f32⟩
  | 73 => ⟨S_, .f32⟩
  | 74 => ⟨S2x4096x4x1, .f32⟩
  | 75 => ⟨S2x4096x4x1, .f32⟩
  | 76 => ⟨S_, .f32⟩
  | 77 => ⟨S2x4096x4x1, .f32⟩
  | 78 => ⟨S2x4096x4x1, .f32⟩
  | 79 => ⟨S2x4096x4x1, .f32⟩
  | 80 => ⟨S2x4096x4x512, .f32⟩
  | 81 => ⟨S2x4096x4x512, .f32⟩
  | 82 => ⟨S1x1x1x512, .f32⟩
  | 83 => ⟨S2x4096x4x512, .f32⟩
  | 84 => ⟨S2x4096x4x512, .f32⟩
  | 85 => ⟨S2x4096x4x512, .f32⟩
  | 86 => ⟨S2x4096x4x512, .f32⟩
  | 87 => ⟨S_, .f32⟩
  | 88 => ⟨S2x4096x4x512, .f32⟩
  | 89 => ⟨S2x4096x4x512, .f32⟩
  | 90 => ⟨S_, .f32⟩
  | 91 => ⟨S2x4096x4x512, .f32⟩
  | 92 => ⟨S2x4096x4x512, .f32⟩
  | 93 => ⟨S2x4096x4x512, .f32⟩
  | 94 => ⟨S256, .f32⟩
  | 95 => ⟨S_, .f32⟩
  | 96 => ⟨S256, .f32⟩
  | 97 => ⟨S256, .f32⟩
  | 98 => ⟨S_, .f32⟩
  | 99 => ⟨S256, .f32⟩
  | 100 => ⟨S256, .f32⟩
  | 101 => ⟨S_, .f32⟩
  | 102 => ⟨S256, .f32⟩
  | 103 => ⟨S256, .f32⟩
  | 104 => ⟨S_, .f32⟩
  | 105 => ⟨S256, .f32⟩
  | 106 => ⟨S256, .f32⟩
  | 107 => ⟨S_, .f32⟩
  | 108 => ⟨S256, .f32⟩
  | 109 => ⟨S256, .f32⟩
  | 110 => ⟨S2x4096, .f32⟩
  | 111 => ⟨S2x4096x1, .f32⟩
  | 112 => ⟨S1x1x256, .f32⟩
  | 113 => ⟨S2x4096x256, .f32⟩
  | 114 => ⟨S2x4096x256, .f32⟩
  | 115 => ⟨S2x4096x256, .f32⟩
  | 116 => ⟨S2x4096x512, .f32⟩
  | 117 => ⟨S2x4096x512, .f32⟩
  | 118 => ⟨S2x4096x1x512, .f32⟩
  | 119 => ⟨S2x4096x512, .f32⟩
  | 120 => ⟨S2x4096x1x512, .f32⟩
  | 121 => ⟨S2x4096x4x512, .f32⟩
  | 122 => ⟨S2x4096x4x512, .f32⟩
  | 123 => ⟨S2x4096x4x256, .f32⟩
  | 124 => ⟨S2x4096x4x256, .f32⟩
  | 125 => ⟨S2x4096x4x256, .f32⟩
  | 126 => ⟨S2x4096x4x512, .f32⟩
  | 127 => ⟨S2x4096x4x512, .f32⟩
  | _ => ⟨S2x4096x16x128, .f32⟩

abbrev hbmTy0_1 (i : Nat) : BufTy := match i % 128 with
  | 0 => ⟨S2x4096x4x512, .f32⟩
  | 1 => ⟨S2x4096x4x512, .f32⟩
  | 2 => ⟨S2x4096x4x512, .f32⟩
  | 3 => ⟨S2x4096x4x512, .f32⟩
  | 4 => ⟨S2x4096x4x256, .f32⟩
  | 5 => ⟨S2x4096x4x256, .f32⟩
  | 6 => ⟨S2x4096x4x256, .f32⟩
  | 7 => ⟨S2x4096x4x512, .f32⟩
  | 8 => ⟨S2x4096x4x512, .f32⟩
  | 9 => ⟨S2x4096x4x512, .f32⟩
  | 10 => ⟨S2x4096x4x512, .f32⟩
  | 11 => ⟨S2x4096x12, .f32⟩
  | 12 => ⟨S1x1x12, .f32⟩
  | 13 => ⟨S2x4096x12, .f32⟩
  | 14 => ⟨S2x4096x12, .f32⟩
  | 15 => ⟨S_, .f32⟩
  | 16 => ⟨S2x4096x12, .f32⟩
  | 17 => ⟨S2x4096x12, .f32⟩
  | 18 => ⟨S_, .f32⟩
  | 19 => ⟨S2x4096x12, .f32⟩
  | 20 => ⟨S2x4096x12, .f32⟩
  | 21 => ⟨S2x4096x12, .f32⟩
  | 22 => ⟨S2x4096x12, .f32⟩
  | 23 => ⟨S2x4096x12, .i1⟩
  | 24 => ⟨S2x4096x12, .f32⟩
  | 25 => ⟨S2x4096x12, .f32⟩
  | 26 => ⟨S2x4096x12, .f32⟩
  | 27 => ⟨S2x4096x12, .f32⟩
  | 28 => ⟨S2x4096x12, .f32⟩
  | 29 => ⟨S2x4096x12, .f32⟩
  | 30 => ⟨S2x4096x12, .f32⟩
  | 31 => ⟨S2x4096x12, .f32⟩
  | 32 => ⟨S2x4096x3x4x1, .f32⟩
  | 33 => ⟨S2x4096x1x4x1, .f32⟩
  | 34 => ⟨S2x4096x4x1, .f32⟩
  | 35 => ⟨S2x4x4096x1, .f32⟩
  | 36 => ⟨S2x4x2x2048x1, .f32⟩
  | 37 => ⟨S2x2x4x2048x1, .f32⟩
  | 38 => ⟨S2x4096x1x4x1, .f32⟩
  | 39 => ⟨S2x4096x4x1, .f32⟩
  | 40 => ⟨S2x4x4096x1, .f32⟩
  | 41 => ⟨S2x4x2x2048x1, .f32⟩
  | 42 => ⟨S2x2x4x2048x1, .f32⟩
  | 43 => ⟨S2x4096x1x4x1, .f32⟩
  | 44 => ⟨S2x4096x4x1, .f32⟩
  | 45 => ⟨S2x4x4096x1, .f32⟩
  | 46 => ⟨S2x4x2x2048x1, .f32⟩
  | 47 => ⟨S2x2x4x2048x1, .f32⟩
  | 48 => ⟨S2x4x4096x512, .f32⟩
  | 49 => ⟨S2x4x2x2048x512, .f32⟩
  | 50 => ⟨S2x2x4x2048x512, .f32⟩
  | 51 => ⟨S2x4x4096x512, .f32⟩
  | 52 => ⟨S2x4x2x2048x512, .f32⟩
  | 53 => ⟨S2x2x4x2048x512, .f32⟩
  | 54 => ⟨S2x4x4096x512, .f32⟩
  | 55 => ⟨S2x4x2x2048x512, .f32⟩
  | 56 => ⟨S2x2x4x2048x512, .f32⟩
  | 57 => ⟨S2x4x512x512, .f32⟩
  | 58 => ⟨S2x4x512x512, .f32⟩
  | 59 => ⟨S2x4x512x512, .f32⟩
  | 60 => ⟨S1x2x4x2048x512, .f32⟩
  | 61 => ⟨S2x4x2048x512, .f32⟩
  | 62 => ⟨S1x2x4x2048x512, .f32⟩
  | 63 => ⟨S2x4x2048x512, .f32⟩
  | 64 => ⟨S1x2x4x2048x512, .f32⟩
  | 65 => ⟨S2x4x2048x512, .f32⟩
  | 66 => ⟨S1x2x4x2048x1, .f32⟩
  | 67 => ⟨S2x4x2048x1, .f32⟩
  | 68 => ⟨S1x2x4x2048x1, .f32⟩
  | 69 => ⟨S2x4x2048x1, .f32⟩
  | 70 => ⟨S1x2x4x2048x1, .f32⟩
  | 71 => ⟨S2x4x2048x1, .f32⟩
  | 72 => ⟨S2x4x2048x512, .f32⟩
  | 73 => ⟨S2x4x2048x512, .f32⟩
  | 74 => ⟨S2x4x2048x512, .f32⟩
  | 75 => ⟨S2x4x2048x512, .f32⟩
  | 76 => ⟨S_, .f32⟩
  | 77 => ⟨S2x4x2048x512, .f32⟩
  | 78 => ⟨S2x4x2048x512, .f32⟩
  | 79 => ⟨S_, .f32⟩
  | 80 => ⟨S2x4x2048x512, .f32⟩
  | 81 => ⟨S2x4x2048x512, .f32⟩
  | 82 => ⟨S2x4x2048x512, .f32⟩
  | 83 => ⟨S2x4x2048x512, .f32⟩
  | 84 => ⟨S2x4x2048x512, .f32⟩
  | 85 => ⟨S2x4x2048x512, .f32⟩
  | 86 => ⟨S2x4x2048x512, .f32⟩
  | 87 => ⟨S2x4x2048x512, .f32⟩
  | 88 => ⟨S2x4x2048x512, .f32⟩
  | 89 => ⟨S_, .f32⟩
  | 90 => ⟨S2x4x2048x512, .f32⟩
  | 91 => ⟨S2x4x2048x512, .f32⟩
  | 92 => ⟨S_, .f32⟩
  | 93 => ⟨S2x4x2048x512, .f32⟩
  | 94 => ⟨S2x4x2048x512, .f32⟩
  | 95 => ⟨S2x4x2048x512, .f32⟩
  | 96 => ⟨S2x4x2048x512, .f32⟩
  | 97 => ⟨S2x4x2048x512, .f32⟩
  | 98 => ⟨S2x4x2048x512, .f32⟩
  | 99 => ⟨S2x4x512x512, .f32⟩
  | 100 => ⟨S2x4x2048x512, .f32⟩
  | 101 => ⟨S2x4x2048x512, .f32⟩
  | 102 => ⟨S2x4x2048x512, .f32⟩
  | 103 => ⟨S_, .f32⟩
  | 104 => ⟨S2x4x2048x512, .f32⟩
  | 105 => ⟨S2x4x2048x512, .f32⟩
  | 106 => ⟨S_, .f32⟩
  | 107 => ⟨S2x4x2048x512, .f32⟩
  | 108 => ⟨S2x4x2048x512, .f32⟩
  | 109 => ⟨S2x4x2048x512, .f32⟩
  | 110 => ⟨S_, .f32⟩
  | 111 => ⟨S2x4x2048x512, .f32⟩
  | 112 => ⟨S2x4x2048x512, .f32⟩
  | 113 => ⟨S2x4x2048x512, .f32⟩
  | 114 => ⟨S_, .f32⟩
  | 115 => ⟨S2x4x2048x512, .f32⟩
  | 116 => ⟨S2x4x2048x512, .f32⟩
  | 117 => ⟨S2x4x2048x512, .f32⟩
  | 118 => ⟨S2x4x2048x512, .f32⟩
  | 119 => ⟨S2x4x2048x512, .f32⟩
  | 120 => ⟨S2x4x2048x512, .f32⟩
  | 121 => ⟨S_, .f32⟩
  | 122 => ⟨S2x4x2048x512, .f32⟩
  | 123 => ⟨S2x4x2048x512, .f32⟩
  | 124 => ⟨S_, .f32⟩
  | 125 => ⟨S2x4x2048x512, .f32⟩
  | 126 => ⟨S2x4x2048x512, .f32⟩
  | 127 => ⟨S2x4x2048x512, .f32⟩
  | _ => ⟨S2x4096x16x128, .f32⟩

abbrev hbmTy0_2 (i : Nat) : BufTy := match i % 128 with
  | 0 => ⟨S2x4x2048x512, .f32⟩
  | 1 => ⟨S2x4x2048x512, .f32⟩
  | 2 => ⟨S2x4x2048x512, .f32⟩
  | 3 => ⟨S2x4x512x512, .f32⟩
  | 4 => ⟨S2x4x2048x512, .f32⟩
  | 5 => ⟨S2x4x2048x512, .f32⟩
  | 6 => ⟨S2x4x512x512, .f32⟩
  | 7 => ⟨S2x4x512x512, .f32⟩
  | 8 => ⟨S2x4x512x512, .f32⟩
  | 9 => ⟨S2x4x512x512, .f32⟩
  | 10 => ⟨S1x2x4x2048x512, .f32⟩
  | 11 => ⟨S2x4x2048x512, .f32⟩
  | 12 => ⟨S1x2x4x2048x512, .f32⟩
  | 13 => ⟨S2x4x2048x512, .f32⟩
  | 14 => ⟨S1x2x4x2048x512, .f32⟩
  | 15 => ⟨S2x4x2048x512, .f32⟩
  | 16 => ⟨S1x2x4x2048x1, .f32⟩
  | 17 => ⟨S2x4x2048x1, .f32⟩
  | 18 => ⟨S1x2x4x2048x1, .f32⟩
  | 19 => ⟨S2x4x2048x1, .f32⟩
  | 20 => ⟨S1x2x4x2048x1, .f32⟩
  | 21 => ⟨S2x4x2048x1, .f32⟩
  | 22 => ⟨S2x4x2048x512, .f32⟩
  | 23 => ⟨S2x4x2048x512, .f32⟩
  | 24 => ⟨S2x4x2048x512, .f32⟩
  | 25 => ⟨S2x4x2048x512, .f32⟩
  | 26 => ⟨S_, .f32⟩
  | 27 => ⟨S2x4x2048x512, .f32⟩
  | 28 => ⟨S2x4x2048x512, .f32⟩
  | 29 => ⟨S_, .f32⟩
  | 30 => ⟨S2x4x2048x512, .f32⟩
  | 31 => ⟨S2x4x2048x512, .f32⟩
  | 32 => ⟨S2x4x2048x512, .f32⟩
  | 33 => ⟨S2x4x2048x512, .f32⟩
  | 34 => ⟨S2x4x2048x512, .f32⟩
  | 35 => ⟨S2x4x2048x512, .f32⟩
  | 36 => ⟨S2x4x2048x512, .f32⟩
  | 37 => ⟨S2x4x2048x512, .f32⟩
  | 38 => ⟨S2x4x2048x512, .f32⟩
  | 39 => ⟨S_, .f32⟩
  | 40 => ⟨S2x4x2048x512, .f32⟩
  | 41 => ⟨S2x4x2048x512, .f32⟩
  | 42 => ⟨S_, .f32⟩
  | 43 => ⟨S2x4x2048x512, .f32⟩
  | 44 => ⟨S2x4x2048x512, .f32⟩
  | 45 => ⟨S2x4x2048x512, .f32⟩
  | 46 => ⟨S2x4x2048x512, .f32⟩
  | 47 => ⟨S2x4x2048x512, .f32⟩
  | 48 => ⟨S2x4x2048x512, .f32⟩
  | 49 => ⟨S2x4x512x512, .f32⟩
  | 50 => ⟨S2x4x2048x512, .f32⟩
  | 51 => ⟨S2x4x2048x512, .f32⟩
  | 52 => ⟨S2x4x2048x512, .f32⟩
  | 53 => ⟨S_, .f32⟩
  | 54 => ⟨S2x4x2048x512, .f32⟩
  | 55 => ⟨S2x4x2048x512, .f32⟩
  | 56 => ⟨S_, .f32⟩
  | 57 => ⟨S2x4x2048x512, .f32⟩
  | 58 => ⟨S2x4x2048x512, .f32⟩
  | 59 => ⟨S2x4x2048x512, .f32⟩
  | 60 => ⟨S_, .f32⟩
  | 61 => ⟨S2x4x2048x512, .f32⟩
  | 62 => ⟨S2x4x2048x512, .f32⟩
  | 63 => ⟨S2x4x2048x512, .f32⟩
  | 64 => ⟨S_, .f32⟩
  | 65 => ⟨S2x4x2048x512, .f32⟩
  | 66 => ⟨S2x4x2048x512, .f32⟩
  | 67 => ⟨S2x4x2048x512, .f32⟩
  | 68 => ⟨S2x4x2048x512, .f32⟩
  | 69 => ⟨S2x4x2048x512, .f32⟩
  | 70 => ⟨S2x4x2048x512, .f32⟩
  | 71 => ⟨S_, .f32⟩
  | 72 => ⟨S2x4x2048x512, .f32⟩
  | 73 => ⟨S2x4x2048x512, .f32⟩
  | 74 => ⟨S_, .f32⟩
  | 75 => ⟨S2x4x2048x512, .f32⟩
  | 76 => ⟨S2x4x2048x512, .f32⟩
  | 77 => ⟨S2x4x2048x512, .f32⟩
  | 78 => ⟨S2x4x2048x512, .f32⟩
  | 79 => ⟨S2x4x2048x512, .f32⟩
  | 80 => ⟨S2x4x2048x512, .f32⟩
  | 81 => ⟨S2x4x512x512, .f32⟩
  | 82 => ⟨S2x4x2048x512, .f32⟩
  | 83 => ⟨S2x4x2048x512, .f32⟩
  | 84 => ⟨S2x4x512x512, .f32⟩
  | 85 => ⟨S2x4x512x512, .f32⟩
  | 86 => ⟨S2x4x512x512, .f32⟩
  | 87 => ⟨S2x4x512x512, .f32⟩
  | 88 => ⟨S1x2x4x2048x512, .f32⟩
  | 89 => ⟨S1x2x4x2048x512, .f32⟩
  | 90 => ⟨S2x2x4x2048x512, .f32⟩
  | 91 => ⟨S2x4x2x2048x512, .f32⟩
  | 92 => ⟨S2x4x4096x512, .f32⟩
  | 93 => ⟨S2x4096x4x512, .f32⟩
  | 94 => ⟨S2x4096x4x512, .f32⟩
  | 95 => ⟨S_, .f32⟩
  | 96 => ⟨S2x4096x4, .f32⟩
  | 97 => ⟨S2x4096x4x1, .f32⟩
  | 98 => ⟨S_, .f32⟩
  | 99 => ⟨S2x4096x4x1, .f32⟩
  | 100 => ⟨S2x4096x4x1, .f32⟩
  | 101 => ⟨S_, .f32⟩
  | 102 => ⟨S2x4096x4x1, .f32⟩
  | 103 => ⟨S2x4096x4x1, .f32⟩
  | 104 => ⟨S2x4096x4x1, .f32⟩
  | 105 => ⟨S2x4096x4x512, .f32⟩
  | 106 => ⟨S2x4096x4x512, .f32⟩
  | 107 => ⟨S1x1x1x512, .f32⟩
  | 108 => ⟨S2x4096x4x512, .f32⟩
  | 109 => ⟨S2x4096x4x512, .f32⟩
  | 110 => ⟨S2x4096x2048, .f32⟩
  | _ => ⟨S2x4096x16x128, .f32⟩

abbrev hbmTy (i : Nat) : BufTy := match i / 128 with
  | 0 => hbmTy0_0 i
  | 1 => hbmTy0_1 i
  | 2 => hbmTy0_2 i
  | _ => ⟨S2x4096x16x128, .f32⟩

abbrev bufTy : (tb : Table) → Fin (tcTables nBuf tb) → BufTy
  | .hbm, ⟨i, _⟩ => hbmTy i
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v42 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v56 : Ref sig .tc := ⟨.hbm, 93, rfl⟩
abbrev main_v57 : Ref sig .tc := ⟨.hbm, 94, rfl⟩
abbrev main_cst_5 : Ref sig .tc := ⟨.hbm, 95, rfl⟩
abbrev main_v58 : Ref sig .tc := ⟨.hbm, 96, rfl⟩
abbrev main_v59 : Ref sig .tc := ⟨.hbm, 97, rfl⟩
abbrev main_cst_6 : Ref sig .tc := ⟨.hbm, 98, rfl⟩
abbrev main_v60 : Ref sig .tc := ⟨.hbm, 99, rfl⟩
abbrev main_v61 : Ref sig .tc := ⟨.hbm, 100, rfl⟩
abbrev main_cst_7 : Ref sig .tc := ⟨.hbm, 101, rfl⟩
abbrev main_v62 : Ref sig .tc := ⟨.hbm, 102, rfl⟩
abbrev main_v63 : Ref sig .tc := ⟨.hbm, 103, rfl⟩
abbrev main_cst_8 : Ref sig .tc := ⟨.hbm, 104, rfl⟩
abbrev main_v64 : Ref sig .tc := ⟨.hbm, 105, rfl⟩
abbrev main_v65 : Ref sig .tc := ⟨.hbm, 106, rfl⟩
abbrev main_cst_9 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_10 : Ref sig .tc := ⟨.hbm, 143, rfl⟩
abbrev main_v101 : Ref sig .tc := ⟨.hbm, 144, rfl⟩
abbrev main_v102 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_v8 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_call3_v0 : Ref sig .tc := ⟨.hbm, 202, rfl⟩
abbrev main_call3_v1 : Ref sig .tc := ⟨.hbm, 203, rfl⟩
abbrev main_call3_cst : Ref sig .tc := ⟨.hbm, 204, rfl⟩
abbrev main_call3_v2 : Ref sig .tc := ⟨.hbm, 205, rfl⟩
abbrev main_call3_v3 : Ref sig .tc := ⟨.hbm, 206, rfl⟩
abbrev main_call3_cst_0 : Ref sig .tc := ⟨.hbm, 207, rfl⟩
abbrev main_call3_v4 : Ref sig .tc := ⟨.hbm, 208, rfl⟩
abbrev main_call3_v5 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_call4_v0 : Ref sig .tc := ⟨.hbm, 215, rfl⟩
abbrev main_call4_v1 : Ref sig .tc := ⟨.hbm, 216, rfl⟩
abbrev main_call4_cst : Ref sig .tc := ⟨.hbm, 217, rfl⟩
abbrev main_call4_v2 : Ref sig .tc := ⟨.hbm, 218, rfl⟩
abbrev main_call4_v3 : Ref sig .tc := ⟨.hbm, 219, rfl⟩
abbrev main_call4_cst_0 : Ref sig .tc := ⟨.hbm, 220, rfl⟩
abbrev main_call4_v4 : Ref sig .tc := ⟨.hbm, 221, rfl⟩
abbrev main_call4_v5 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_cst_11 : Ref sig .tc := ⟨.hbm, 231, rfl⟩
abbrev main_v159 : Ref sig .tc := ⟨.hbm, 232, rfl⟩
abbrev main_v160 : Ref sig .tc := ⟨.hbm, 233, rfl⟩
abbrev main_cst_12 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_cst_13 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_cst_14 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_call5_v0 : Ref sig .tc := ⟨.hbm, 247, rfl⟩
abbrev main_call5_v1 : Ref sig .tc := ⟨.hbm, 248, rfl⟩
abbrev main_call5_cst : Ref sig .tc := ⟨.hbm, 249, rfl⟩
abbrev main_call5_v2 : Ref sig .tc := ⟨.hbm, 250, rfl⟩
abbrev main_call5_v3 : Ref sig .tc := ⟨.hbm, 251, rfl⟩
abbrev main_call5_cst_0 : Ref sig .tc := ⟨.hbm, 252, rfl⟩
abbrev main_call5_v4 : Ref sig .tc := ⟨.hbm, 253, rfl⟩
abbrev main_call5_v5 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_call6_v0 : Ref sig .tc := ⟨.hbm, 280, rfl⟩
abbrev main_call6_v1 : Ref sig .tc := ⟨.hbm, 281, rfl⟩
abbrev main_call6_cst : Ref sig .tc := ⟨.hbm, 282, rfl⟩
abbrev main_call6_v2 : Ref sig .tc := ⟨.hbm, 283, rfl⟩
abbrev main_call6_v3 : Ref sig .tc := ⟨.hbm, 284, rfl⟩
abbrev main_call6_cst_0 : Ref sig .tc := ⟨.hbm, 285, rfl⟩
abbrev main_call6_v4 : Ref sig .tc := ⟨.hbm, 286, rfl⟩
abbrev main_call6_v5 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_call7_v0 : Ref sig .tc := ⟨.hbm, 293, rfl⟩
abbrev main_call7_v1 : Ref sig .tc := ⟨.hbm, 294, rfl⟩
abbrev main_call7_cst : Ref sig .tc := ⟨.hbm, 295, rfl⟩
abbrev main_call7_v2 : Ref sig .tc := ⟨.hbm, 296, rfl⟩
abbrev main_call7_v3 : Ref sig .tc := ⟨.hbm, 297, rfl⟩
abbrev main_call7_cst_0 : Ref sig .tc := ⟨.hbm, 298, rfl⟩
abbrev main_call7_v4 : Ref sig .tc := ⟨.hbm, 299, rfl⟩
abbrev main_call7_v5 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_cst_15 : Ref sig .tc := ⟨.hbm, 309, rfl⟩
abbrev main_v209 : Ref sig .tc := ⟨.hbm, 310, rfl⟩
abbrev main_v210 : Ref sig .tc := ⟨.hbm, 311, rfl⟩
abbrev main_cst_16 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_cst_17 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_cst_18 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_call8_v0 : Ref sig .tc := ⟨.hbm, 325, rfl⟩
abbrev main_call8_v1 : Ref sig .tc := ⟨.hbm, 326, rfl⟩
abbrev main_call8_cst : Ref sig .tc := ⟨.hbm, 327, rfl⟩
abbrev main_call8_v2 : Ref sig .tc := ⟨.hbm, 328, rfl⟩
abbrev main_call8_v3 : Ref sig .tc := ⟨.hbm, 329, rfl⟩
abbrev main_call8_cst_0 : Ref sig .tc := ⟨.hbm, 330, rfl⟩
abbrev main_call8_v4 : Ref sig .tc := ⟨.hbm, 331, rfl⟩
abbrev main_call8_v5 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_v237 : Ref sig .tc := ⟨.hbm, 349, rfl⟩
abbrev main_v238 : Ref sig .tc := ⟨.hbm, 350, rfl⟩
abbrev main_cst_19 : Ref sig .tc := ⟨.hbm, 351, rfl⟩
abbrev main_v239 : Ref sig .tc := ⟨.hbm, 352, rfl⟩
abbrev main_v240 : Ref sig .tc := ⟨.hbm, 353, rfl⟩
abbrev main_cst_20 : Ref sig .tc := ⟨.hbm, 354, rfl⟩
abbrev main_v241 : Ref sig .tc := ⟨.hbm, 355, rfl⟩
abbrev main_v242 : Ref sig .tc := ⟨.hbm, 356, rfl⟩
abbrev main_cst_21 : Ref sig .tc := ⟨.hbm, 357, rfl⟩
abbrev main_v243 : Ref sig .tc := ⟨.hbm, 358, rfl⟩
abbrev main_v244 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_v251 : Ref sig .tc := ⟨.hbm, 366, rfl⟩

abbrev nD : Nat := 1
abbrev τ : Topo := Topo.v7x

variable {F : FTy → Type} [FloatOps F]
-- ==== Proof.K2.KernelIdeal.RunA.lean ====
/-
  Custom call 2 of `KernelIdeal`, the body run once at the first chunk of a head: the weights are copied from their windows into the scratch buffers.
  The run finds the pieces that the body stores into the output block and into the three scratch buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

/-- The condition of the body's conditional, read off the grid coordinates: the chunk and the row step are the first. -/
abbrev cond (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

variable (𝒱₀ : Variants)

set_option maxHeartbeats 1000000 in
/-- The run at the first chunk of a head: the weights are copied from their windows into the scratch buffers. -/
noncomputable def kernelRun2_A (c : Dev nD) (i : grid2.Coords)
    (arg3 : Memref sig .tc .vmem S1x2048x512 .f32) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x1x2048x3 .f32) (harg6 : arg6.IsWhole)
    (arg7 : Memref sig .tc .vmem S2048x256 .bf16) (harg7 : arg7.IsWhole) (arg8 : Memref sig .tc .vmem S2048x256 .bf16) (harg8 : arg8.IsWhole)
    (arg9 : Memref sig .tc .vmem S1x512x512 .f32) (harg9 : arg9.IsWhole) (arg10 : Memref sig .tc .vmem S1x512x512 .f32) (harg10 : arg10.IsWhole)
    (arg11 : Memref sig .tc .vmem S1x512x512 .f32) (harg11 : arg11.IsWhole) (arg12 : Memref sig .tc .vmem S2x512 .f32) (harg12 : arg12.IsWhole)
    (arg13 : Memref sig .tc .vmem S2x512 .f32) (harg13 : arg13.IsWhole) (arg14 : Memref sig .tc .vmem S1x512 .f32) (harg14 : arg14.IsWhole)
    (arg15 : Memref sig .tc .vmem S1x512 .f32) (harg15 : arg15.IsWhole) (arg16 : Memref sig .tc .vmem S1x512 .f32) (harg16 : arg16.IsWhole)
    (arg17 : Memref sig .tc .vmem S1x2048x512 .f32) (harg17 : arg17.IsWhole) (arg18 : Memref sig .tc .vmem S512x512 .f32) (harg18 : arg18.IsWhole)
    (arg19 : Memref sig .tc .vmem S512x512 .f32) (harg19 : arg19.IsWhole) (arg20 : Memref sig .tc .vmem S512x512 .f32) (harg20 : arg20.IsWhole)
    (hc : cond i)
    (x0 : Vec F S1x2048x512 .f32) (x1 : Vec F S1x2048x256 .f32) (x2 : Vec F S1x2048x256 .f32) (x3 : Vec F S1x1x2048x3 .f32) (x4 : Vec F S2048x256 .bf16)
    (x5 : Vec F S2048x256 .bf16) (x6 : Vec F S1x512x512 .f32) (x7 : Vec F S1x512x512 .f32) (x8 : Vec F S1x512x512 .f32) (x9 : Vec F S2x512 .f32)
    (x10 : Vec F S2x512 .f32) (x11 : Vec F S1x512 .f32) (x12 : Vec F S1x512 .f32) (x13 : Vec F S1x512 .f32) :
    Σ' (LO : List (View.Piece (Elt F) S1x2048x512 .f32)), Σ' (LS0 : List (View.Piece (Elt F) S512x512 .f32)), Σ' (LS1 : List (View.Piece (Elt F) S512x512 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗
          owns (c : Thread nD τ) arg6 fullShare x3 ∗ owns (c : Thread nD τ) arg7 fullShare x4 ∗ owns (c : Thread nD τ) arg8 fullShare x5 ∗
          owns (c : Thread nD τ) arg9 fullShare x6 ∗ owns (c : Thread nD τ) arg10 fullShare x7 ∗ owns (c : Thread nD τ) arg11 fullShare x8 ∗
          owns (c : Thread nD τ) arg12 fullShare x9 ∗ owns (c : Thread nD τ) arg13 fullShare x10 ∗ owns (c : Thread nD τ) arg14 fullShare x11 ∗
          owns (c : Thread nD τ) arg15 fullShare x12 ∗ owns (c : Thread nD τ) arg16 fullShare x13 ∗ (∃ d, owns (c : Thread nD τ) arg17 fullShare d) ∗
          (∃ d, owns (c : Thread nD τ) arg18 fullShare d) ∗ (∃ d, owns (c : Thread nD τ) arg19 fullShare d) ∗ (∃ d, owns (c : Thread nD τ) arg20 fullShare d)
            ∗ (iprop(owns (c : Thread nD τ) arg3 fullShare x0 ∗ owns (c : Thread nD τ) arg4 fullShare x1 ∗ owns (c : Thread nD τ) arg5 fullShare x2 ∗
              owns (c : Thread nD τ) arg6 fullShare x3 ∗ owns (c : Thread nD τ) arg7 fullShare x4 ∗ owns (c : Thread nD τ) arg8 fullShare x5 ∗
              owns (c : Thread nD τ) arg9 fullShare x6 ∗ owns (c : Thread nD τ) arg10 fullShare x7 ∗ owns (c : Thread nD τ) arg11 fullShare x8 ∗
              owns (c : Thread nD τ) arg12 fullShare x9 ∗ owns (c : Thread nD τ) arg13 fullShare x10 ∗ owns (c : Thread nD τ) arg14 fullShare x11 ∗
              owns (c : Thread nD τ) arg15 fullShare x12 ∗ owns (c : Thread nD τ) arg16 fullShare x13 ∗ (∃ f, arg17.view.loc (c : Thread nD τ) ↦[arg17.view.set]{fullShare} arg17.view.writes (Elt F) f LO) ∗
              (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) 𝒱₀ c none) E (cc2_lact_fw i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc2_lact_fw_eq_skeleton]; unfold cc2_lact_fw_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]; · iexists _; iexact H14
    isplitl [HS0]; · iexists _; iexact HS0
    isplitl [HS1]; · iexists _; iexact HS1
    iexists _; iexact HS2

end Cert.KernelIdeal.K2

end
-- ==== Proof.K2.KernelIdeal.RunB.lean ====
/-
  Custom call 2 of `KernelIdeal`, the body run once at the second chunk of a head: the weights are those the first chunk left in the scratch buffers.
  The run finds the pieces that the body stores into the output block and into the three scratch buffers.
-/
module

public import proofs.«01_k».proof.Proof.K2.KernelIdeal.RunA

@[expose] public section

set_option maxRecDepth 16384

noncomputable section

namespace Cert.KernelIdeal.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants)

set_option maxHeartbeats 1000000 in
/-- The run at the second chunk of a head: the weights are those the first chunk left in the scratch buffers. -/
noncomputable def kernelRun2_B (c : Dev nD) (i : grid2.Coords)
    (arg3 : Memref sig .tc .vmem S1x2048x512 .f32) (harg3 : arg3.IsWhole) (arg4 : Memref sig .tc .vmem S1x2048x256 .f32) (harg4 : arg4.IsWhole)
    (arg5 : Memref sig .tc .vmem S1x2048x256 .f32) (harg5 : arg5.IsWhole) (arg6 : Memref sig .tc .vmem S1x1x2048x3 .f32) (harg6 : arg6.IsWhole)
    (arg7 : Memref sig .tc .vmem S2048x256 .bf16) (harg7 : arg7.IsWhole) (arg8 : Memref sig .tc .vmem S2048x256 .bf16) (harg8 : arg8.IsWhole)
    (arg9 : Memref sig .tc .vmem S1x512x512 .f32) (harg9 : arg9.IsWhole) (arg10 : Memref sig .tc .vmem S1x512x512 .f32) (harg10 : arg10.IsWhole)
    (arg11 : Memref sig .tc .vmem S1x512x512 .f32) (harg11 : arg11.IsWhole) (arg12 : Memref sig .tc .vmem S2x512 .f32) (harg12 : arg12.IsWhole)
    (arg13 : Memref sig .tc .vmem S2x512 .f32) (harg13 : arg13.IsWhole) (arg14 : Memref sig .tc .vmem S1x512 .f32) (harg14 : arg14.IsWhole)
    (arg15 : Memref sig .tc .vmem S1x512 .f32) (harg15 : arg15.IsWhole) (arg16 : Memref sig .tc .vmem S1x512 .f32) (harg16 : arg16.IsWhole)
    (arg17 : Memref sig .tc .vmem S1x2048x512 .f32) (harg17 : arg17.IsWhole) (arg18 : Memref sig .tc .vmem S512x512 .f32) (harg18 : arg18.IsWhole)
    (arg19 : Memref sig .tc .vmem S512x512 .f32) (harg19 : arg19.IsWhole) (arg20 : Memref sig .tc .vmem S512x512 .f32) (harg20 : arg20.IsWhole)
    (hc : ¬cond i)
    (x0 : Vec F S1x2048x512 .f32) (x1 : Vec F S1x2048x256 .f32) (x2 : Vec F S1x2048x256 .f32) (x3 : Vec F S1x1x2048x3 .f32) (x4 : Vec F S2048x256 .bf16)
    (x5 : Vec F S2048x256 .bf16) (x6 : Vec F S1x512x512 .f32) (x7 : Vec F S1x512x512 .f32) (x8 : Vec F S1x512x512 .f32) (x9 : Vec F S2x512 .f32)
    (x10 : Vec F S2x512 .f32) (x11 : Vec F S1x512 .f32) (x12 : Vec F S1x512 .f32) (x13 : Vec F S1x512 .f32) (s0 : Vec F S512x512 .f32)
    (s1 : Vec F S512x512 .f32) (s2 : Vec F S512x512 .f32) :
    Σ' (LO : List (View.Piece (Elt F) S1x2048x512 .f32)), Σ' (LS0 : List (View.Piece (Elt F) S512x512 .f32)), Σ' (LS1 : List (View.Piece (Elt F) S512x512 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗
          owns (c : Thread nD τ) arg6 fullShare x3 ∗ owns (c : Thread nD τ) arg7 fullShare x4 ∗ owns (c : Thread nD τ) arg8 fullShare x5 ∗
          owns (c : Thread nD τ) arg9 fullShare x6 ∗ owns (c : Thread nD τ) arg10 fullShare x7 ∗ owns (c : Thread nD τ) arg11 fullShare x8 ∗
          owns (c : Thread nD τ) arg12 fullShare x9 ∗ owns (c : Thread nD τ) arg13 fullShare x10 ∗ owns (c : Thread nD τ) arg14 fullShare x11 ∗
          owns (c : Thread nD τ) arg15 fullShare x12 ∗ owns (c : Thread nD τ) arg16 fullShare x13 ∗ (∃ d, owns (c : Thread nD τ) arg17 fullShare d) ∗
          owns (c : Thread nD τ) arg18 fullShare s0 ∗ owns (c : Thread nD τ) arg19 fullShare s1 ∗ owns (c : Thread nD τ) arg20 fullShare s2
            ∗ (iprop(owns (c : Thread nD τ) arg3 fullShare x0 ∗ owns (c : Thread nD τ) arg4 fullShare x1 ∗ owns (c : Thread nD τ) arg5 fullShare x2 ∗
              owns (c : Thread nD τ) arg6 fullShare x3 ∗ owns (c : Thread nD τ) arg7 fullShare x4 ∗ owns (c : Thread nD τ) arg8 fullShare x5 ∗
              owns (c : Thread nD τ) arg9 fullShare x6 ∗ owns (c : Thread nD τ) arg10 fullShare x7 ∗ owns (c : Thread nD τ) arg11 fullShare x8 ∗
              owns (c : Thread nD τ) arg12 fullShare x9 ∗ owns (c : Thread nD τ) arg13 fullShare x10 ∗ owns (c : Thread nD τ) arg14 fullShare x11 ∗
              owns (c : Thread nD τ) arg15 fullShare x12 ∗ owns (c : Thread nD τ) arg16 fullShare x13 ∗ (∃ f, arg17.view.loc (c : Thread nD τ) ↦[arg17.view.set]{fullShare} arg17.view.writes (Elt F) f LO) ∗
              (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2)) -∗ K ⟨⟩))
          ⊢ wp frame (wpE (defs₀ (F := F)) 𝒱₀ c none) E (cc2_lact_fw i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc2_lact_fw_eq_skeleton]; unfold cc2_lact_fw_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg18.eq_unread hfs0; obtain rfl := harg19.eq_unread hfs1; obtain rfl := harg20.eq_unread hfs2
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]; · iexists _; iexact H14
    isplitl [HS0]; · iexists _; iexact HS0
    isplitl [HS1]; · iexists _; iexact HS1
    iexists _; iexact HS2

end Cert.KernelIdeal.K2

end
-- ==== Proof.K2.KernelIdeal.Frame.lean ====
/-
  Custom call 2 of `KernelIdeal`, at any entry contents `V`: what the body leaves in its output block and in the scratch
  buffers at each grid point, the proof data, and the body obligation.

  The grid runs the two chunks of a head one after the other, so an even point is a first chunk and the odd
  point after it the second.  Before an even point the scratch buffers may hold anything; before an odd one they
  hold what the even point before left.
-/
module

public import proofs.«01_k».proof.Proof.K2.KernelIdeal.RunB

@[expose] public section

set_option maxRecDepth 16384

noncomputable section

namespace Cert.KernelIdeal.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The conditional is taken at the even points. -/
theorem hcond : ∀ t : Fin cfg2.N, cond (grid2.coords t) ↔ t.val % 2 = 0 :=
  (fun t => by
    have ht : t.val < 16 := Nat.lt_of_lt_of_eq t.isLt N_2
    have e1 : (grid2.coords t 1).val = t.val / 1 % 2 := Pipeline.Grid.coords_val t 1 (by decide) rfl
    have e2 : (grid2.coords t 2).val = t.val / 1 % 1 := Pipeline.Grid.coords_val t 2 (by decide) rfl
    simp only [cond, e1, e2]
    word_cmp
   : ∀ t : Fin grid2.N, cond (grid2.coords t) ↔ t.val % 2 = 0)

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The windows' memrefs at a point, and the scratch buffers -/

abbrev ms0 (t : Fin cfg2.N) : Memref sig .tc .vmem S1x2048x512 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x2048x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x2048x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1x2048x3 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x256 .bf16 := win2_4.stage (cfg2.slots t 4)
abbrev hs4 (t : Fin cfg2.N) : (ms4 t).IsWhole := hstage2_4 ((cfg2.slots t 4).cast nbuf2_4)
abbrev ms5 (t : Fin cfg2.N) : Memref sig .tc .vmem S2048x256 .bf16 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x512x512 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S1x512x512 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1x512x512 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S2x512 .f32 := win2_9.stage (cfg2.slots t 9)
abbrev hs9 (t : Fin cfg2.N) : (ms9 t).IsWhole := hstage2_9 ((cfg2.slots t 9).cast nbuf2_9)
abbrev ms10 (t : Fin cfg2.N) : Memref sig .tc .vmem S2x512 .f32 := win2_10.stage (cfg2.slots t 10)
abbrev hs10 (t : Fin cfg2.N) : (ms10 t).IsWhole := hstage2_10 ((cfg2.slots t 10).cast nbuf2_10)
abbrev ms11 (t : Fin cfg2.N) : Memref sig .tc .vmem S1x512 .f32 := win2_11.stage (cfg2.slots t 11)
abbrev hs11 (t : Fin cfg2.N) : (ms11 t).IsWhole := hstage2_11 ((cfg2.slots t 11).cast nbuf2_11)
abbrev ms12 (t : Fin cfg2.N) : Memref sig .tc .vmem S1x512 .f32 := win2_12.stage (cfg2.slots t 12)
abbrev hs12 (t : Fin cfg2.N) : (ms12 t).IsWhole := hstage2_12 ((cfg2.slots t 12).cast nbuf2_12)
abbrev ms13 (t : Fin cfg2.N) : Memref sig .tc .vmem S1x512 .f32 := win2_13.stage (cfg2.slots t 13)
abbrev hs13 (t : Fin cfg2.N) : (ms13 t).IsWhole := hstage2_13 ((cfg2.slots t 13).cast nbuf2_13)
abbrev ms14 (t : Fin cfg2.N) : Memref sig .tc .vmem S1x2048x512 .f32 := win2_14.stage (cfg2.slots t 14)
abbrev hs14 (t : Fin cfg2.N) : (ms14 t).IsWhole := hstage2_14 ((cfg2.slots t 14).cast nbuf2_14)
abbrev scM0 : Memref sig .tc .vmem S512x512 .f32 := Memref.whole cc2_scratch0
abbrev scM1 : Memref sig .tc .vmem S512x512 .f32 := Memref.whole cc2_scratch1
abbrev scM2 : Memref sig .tc .vmem S512x512 .f32 := Memref.whole cc2_scratch2
/-- The views through which the output block and the scratch contents are stated. -/
abbrev VO : View sig .tc .vmem S1x2048x512 .f32 := (Memref.whole cc2_stg14_0 : Memref sig .tc .vmem S1x2048x512 .f32).view
abbrev VS0 : View sig .tc .vmem S512x512 .f32 := scM0.view
abbrev VS1 : View sig .tc .vmem S512x512 .f32 := scM1.view
abbrev VS2 : View sig .tc .vmem S512x512 .f32 := scM2.view

/-! ## What the body leaves -/

/-- The run at an even point, on the point's memrefs and blocks. -/
abbrev runA (c : Dev nD) (t : Fin cfg2.N) (h : t.val % 2 = 0) :=
  kernelRun2_A (Ix := Ix) (U := U) (Lvl := Lvl) 𝒱₀ c (grid2.coords t)
    (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _)
    ((hcond t).mpr h) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)

/-- The run at an odd point, on the point's memrefs and blocks, over the scratch contents `s0 s1 s2`. -/
abbrev runB (c : Dev nD) (t : Fin cfg2.N) (h : ¬t.val % 2 = 0) (s0 s1 s2 : Vec F S512x512 .f32) :=
  kernelRun2_B (Ix := Ix) (U := U) (Lvl := Lvl) 𝒱₀ c (grid2.coords t)
    (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM0 (Memref.isWhole_whole _) scM1 (Memref.isWhole_whole _) scM2 (Memref.isWhole_whole _)
    (fun hc => h ((hcond t).mp hc)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) s0 s1 s2

/-- An even point stores scratch 0 whole. -/
theorem cover_S0 (c : Dev nD) (t : Fin cfg2.N) (h : t.val % 2 = 0) (y : S512x512.Idx) :
    ∃ pc ∈ (runA (Ix := Ix) (U := U) (Lvl := Lvl) 𝒱₀ V c t h).2.1, y ∈ pc.1.set :=
  View.cover_of_tiledL (runA (Ix := Ix) (U := U) (Lvl := Lvl) 𝒱₀ V c t h).2.1 S512x512.size (by sl_kernel_rfl) y

/-- What an even point leaves in scratch 0. -/
def sA0 (c : Dev nD) (t : Fin cfg2.N) (h : t.val % 2 = 0) : Vec F S512x512 .f32 :=
  VS0.read (Elt F) (VS0.writes (Elt F) VS0.junk (runA (Ix := Ix) (U := U) (Lvl := Lvl) 𝒱₀ V c t h).2.1)

/-- An even point stores scratch 1 whole. -/
theorem cover_S1 (c : Dev nD) (t : Fin cfg2.N) (h : t.val % 2 = 0) (y : S512x512.Idx) :
    ∃ pc ∈ (runA (Ix := Ix) (U := U) (Lvl := Lvl) 𝒱₀ V c t h).2.2.1, y ∈ pc.1.set :=
  View.cover_of_tiledL (runA (Ix := Ix) (U := U) (Lvl := Lvl) 𝒱₀ V c t h).2.2.1 S512x512.size (by sl_kernel_rfl) y

/-- What an even point leaves in scratch 1. -/
def sA1 (c : Dev nD) (t : Fin cfg2.N) (h : t.val % 2 = 0) : Vec F S512x512 .f32 :=
  VS1.read (Elt F) (VS1.writes (Elt F) VS1.junk (runA (Ix := Ix) (U := U) (Lvl := Lvl) 𝒱₀ V c t h).2.2.1)

/-- An even point stores scratch 2 whole. -/
theorem cover_S2 (c : Dev nD) (t : Fin cfg2.N) (h : t.val % 2 = 0) (y : S512x512.Idx) :
    ∃ pc ∈ (runA (Ix := Ix) (U := U) (Lvl := Lvl) 𝒱₀ V c t h).2.2.2.1, y ∈ pc.1.set :=
  View.cover_of_tiledL (runA (Ix := Ix) (U := U) (Lvl := Lvl) 𝒱₀ V c t h).2.2.2.1 S512x512.size (by sl_kernel_rfl) y

/-- What an even point leaves in scratch 2. -/
def sA2 (c : Dev nD) (t : Fin cfg2.N) (h : t.val % 2 = 0) : Vec F S512x512 .f32 :=
  VS2.read (Elt F) (VS2.writes (Elt F) VS2.junk (runA (Ix := Ix) (U := U) (Lvl := Lvl) 𝒱₀ V c t h).2.2.2.1)

/-- An even point stores the output block whole. -/
theorem cover_A (c : Dev nD) (t : Fin cfg2.N) (h : t.val % 2 = 0) (y : S1x2048x512.Idx) :
    ∃ pc ∈ (runA (Ix := Ix) (U := U) (Lvl := Lvl) 𝒱₀ V c t h).1, y ∈ pc.1.set :=
  View.cover_of_tiledL (runA (Ix := Ix) (U := U) (Lvl := Lvl) 𝒱₀ V c t h).1 S1x2048x512.size (by sl_kernel_rfl) y

/-- What an even point leaves in the output block. -/
def oA (c : Dev nD) (t : Fin cfg2.N) (h : t.val % 2 = 0) : Vec F S1x2048x512 .f32 :=
  VO.read (Elt F) (VO.writes (Elt F) VO.junk (runA (Ix := Ix) (U := U) (Lvl := Lvl) 𝒱₀ V c t h).1)

/-- An odd point stores the output block whole. -/
theorem cover_B (c : Dev nD) (t : Fin cfg2.N) (h : ¬t.val % 2 = 0) (s0 s1 s2 : Vec F S512x512 .f32) (y : S1x2048x512.Idx) :
    ∃ pc ∈ (runB (Ix := Ix) (U := U) (Lvl := Lvl) 𝒱₀ V c t h s0 s1 s2).1, y ∈ pc.1.set :=
  View.cover_of_tiledL (runB (Ix := Ix) (U := U) (Lvl := Lvl) 𝒱₀ V c t h s0 s1 s2).1 S1x2048x512.size (by sl_kernel_rfl) y

/-- What an odd point leaves in the output block, over the scratch contents `s0 s1 s2`. -/
def oB (c : Dev nD) (t : Fin cfg2.N) (h : ¬t.val % 2 = 0) (s0 s1 s2 : Vec F S512x512 .f32) : Vec F S1x2048x512 .f32 :=
  VO.read (Elt F) (VO.writes (Elt F) VO.junk (runB (Ix := Ix) (U := U) (Lvl := Lvl) 𝒱₀ V c t h s0 s1 s2).1)

/-- The point before an odd position. -/
abbrev prev (n : ℕ) (hn : n ≤ cfg2.N) (h : ¬n % 2 = 0) : Fin cfg2.N := ⟨n - 1, by omega⟩
theorem prev_even (n : ℕ) (hn : n ≤ cfg2.N) (h : ¬n % 2 = 0) : (prev n hn h).val % 2 = 0 := by show (n - 1) % 2 = 0; omega

/-- What the body leaves in the output block at point `t`. -/
def outAt (c : Dev nD) (t : Fin cfg2.N) : Vec F S1x2048x512 .f32 :=
  if h : t.val % 2 = 0 then oA (Ix := Ix) (U := U) (Lvl := Lvl) 𝒱₀ V c t h
  else oB (Ix := Ix) (U := U) (Lvl := Lvl) 𝒱₀ V c t h (sA0 (Ix := Ix) (U := U) (Lvl := Lvl) 𝒱₀ V c (prev t.val t.isLt.le h) (prev_even _ _ h))
    (sA1 (Ix := Ix) (U := U) (Lvl := Lvl) 𝒱₀ V c (prev t.val t.isLt.le h) (prev_even _ _ h)) (sA2 (Ix := Ix) (U := U) (Lvl := Lvl) 𝒱₀ V c (prev t.val t.isLt.le h) (prev_even _ _ h))

/-! ## The invariant -/

/-- The three scratch buffers at anything. -/
def scrAny (c : Dev nD) : sProp 𝕄 :=
  iprop((∃ d, owns (c : Thread nD τ) scM0 fullShare d) ∗ (∃ d, owns (c : Thread nD τ) scM1 fullShare d) ∗ (∃ d, owns (c : Thread nD τ) scM2 fullShare d))

/-- The three scratch buffers at what the even point `t` left. -/
def scrAt (c : Dev nD) (t : Fin cfg2.N) (h : t.val % 2 = 0) : sProp 𝕄 :=
  iprop(owns (c : Thread nD τ) scM0 fullShare (sA0 (Ix := Ix) (U := U) (Lvl := Lvl) 𝒱₀ V c t h) ∗ owns (c : Thread nD τ) scM1 fullShare (sA1 (Ix := Ix) (U := U) (Lvl := Lvl) 𝒱₀ V c t h)
    ∗ owns (c : Thread nD τ) scM2 fullShare (sA2 (Ix := Ix) (U := U) (Lvl := Lvl) 𝒱₀ V c t h))

/-- The buffers of the other two calls, at anything. -/
def others (c : Dev nD) : sProp 𝕄 :=
  iprop((∃ f : Buf (Elt F) ((c : Thread nD τ).loc cc0_stg0_0), ((c : Thread nD τ).loc cc0_stg0_0) ↦{fullShare} f) ∗
    (∃ f : Buf (Elt F) ((c : Thread nD τ).loc cc0_stg0_1), ((c : Thread nD τ).loc cc0_stg0_1) ↦{fullShare} f) ∗
    (∃ f : Buf (Elt F) ((c : Thread nD τ).loc cc0_stg1_0), ((c : Thread nD τ).loc cc0_stg1_0) ↦{fullShare} f) ∗
    (∃ f : Buf (Elt F) ((c : Thread nD τ).loc cc0_stg1_1), ((c : Thread nD τ).loc cc0_stg1_1) ↦{fullShare} f) ∗
    (∃ f : Buf (Elt F) ((c : Thread nD τ).loc cc0_stg2_0), ((c : Thread nD τ).loc cc0_stg2_0) ↦{fullShare} f) ∗
    (∃ f : Buf (Elt F) ((c : Thread nD τ).loc cc0_stg2_1), ((c : Thread nD τ).loc cc0_stg2_1) ↦{fullShare} f) ∗
    (∃ f : Buf (Elt F) ((c : Thread nD τ).loc cc1_stg0_0), ((c : Thread nD τ).loc cc1_stg0_0) ↦{fullShare} f) ∗
    (∃ f : Buf (Elt F) ((c : Thread nD τ).loc cc1_stg0_1), ((c : Thread nD τ).loc cc1_stg0_1) ↦{fullShare} f) ∗
    (∃ f : Buf (Elt F) ((c : Thread nD τ).loc cc1_stg1_0), ((c : Thread nD τ).loc cc1_stg1_0) ↦{fullShare} f) ∗
    (∃ f : Buf (Elt F) ((c : Thread nD τ).loc cc1_stg2_0), ((c : Thread nD τ).loc cc1_stg2_0) ↦{fullShare} f) ∗
    (∃ f : Buf (Elt F) ((c : Thread nD τ).loc cc1_stg3_0), ((c : Thread nD τ).loc cc1_stg3_0) ↦{fullShare} f) ∗
    (∃ f : Buf (Elt F) ((c : Thread nD τ).loc cc1_stg3_1), ((c : Thread nD τ).loc cc1_stg3_1) ↦{fullShare} f))

/-- The invariant before position `n`. -/
def Phi (c : Dev nD) (n : ℕ) (hn : n ≤ cfg2.N) : sProp 𝕄 :=
  iprop((if h : n % 2 = 0 then scrAny c else scrAt 𝒱₀ V c (prev n hn h) (prev_even n hn h)) ∗ others c ∗ ∃ r, prngReg c r)

theorem Phi_even (c : Dev nD) (n : ℕ) (hn : n ≤ cfg2.N) (h : n % 2 = 0) :
    Phi (Ix := Ix) (U := U) (Lvl := Lvl) 𝒱₀ V c n hn = iprop(scrAny c ∗ others c ∗ ∃ r, prngReg c r) := by
  unfold Phi; rw [dif_pos h]

theorem Phi_odd (c : Dev nD) (n : ℕ) (hn : n ≤ cfg2.N) (h : ¬n % 2 = 0) :
    Phi (Ix := Ix) (U := U) (Lvl := Lvl) 𝒱₀ V c n hn = iprop(scrAt 𝒱₀ V c (prev n hn h) (prev_even n hn h) ∗ others c ∗ ∃ r, prngReg c r) := by
  unfold Phi; rw [dif_neg h]

/-- After an even point the scratch buffers are at what it left. -/
theorem Phi_succ_even (c : Dev nD) (t : Fin cfg2.N) (h : t.val % 2 = 0) :
    Phi (Ix := Ix) (U := U) (Lvl := Lvl) 𝒱₀ V c (t.val + 1) t.isLt = iprop(scrAt 𝒱₀ V c t h ∗ others c ∗ ∃ r, prngReg c r) := by
  rw [Phi_odd _ _ _ _ _ (by omega)]; rfl

/-- What the launch hands the region is the invariant before the first point. -/
theorem hin (c : Dev nD) :
    iprop(Pipeline.scopedRest (Ix := Ix) (Name := ℕ) (U := U) (Lvl := Lvl) (Val := Elt F) spec2 c ∗ ∃ r, prngReg c r) ⊢ Phi 𝒱₀ V c 0 (Nat.zero_le _) := by
  rw [Phi_even _ _ _ _ _ rfl, scopedRest2_eq]
  unfold scrAny others
  simp only [scM0, scM1, scM2, owns_whole]
  iintro ⟨⟨A0, A1, A2, A3, A4, A5, A6, A7, A8, A9, A10, A11, S0, S1, S2⟩, Hp⟩
  isplitl [S0 S1 S2]
  · isplitl [S0]; · iexact S0
    isplitl [S1]; · iexact S1
    iexact S2
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact Hp

/-- The invariant after the last point gives it back. -/
theorem hout (c : Dev nD) :
    Phi 𝒱₀ V c cfg2.N le_rfl ⊢ iprop(Pipeline.scopedRest (Ix := Ix) (Name := ℕ) (U := U) (Lvl := Lvl) (Val := Elt F) spec2 c ∗ ∃ r, prngReg c r) := by
  rw [Phi_even _ _ _ _ _ (by rw [show cfg2.N = 16 from N_2]), scopedRest2_eq]
  unfold scrAny others
  simp only [scM0, scM1, scM2, owns_whole]
  iintro ⟨⟨S0, S1, S2⟩, ⟨A0, A1, A2, A3, A4, A5, A6, A7, A8, A9, A10, A11⟩, Hp⟩
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    isplitl [S1]; · iexact S1
    iexact S2
  iexact Hp

/-! ## The proof data -/

/-- The proof data of the pipeline on core `c`: each input's buffer at its block after the body, the output's at `outAt`. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => outAt (Ix := Ix) (U := U) (Lvl := Lvl) 𝒱₀ V c t
  Φ t := Phi (Ix := Ix) (U := U) (Lvl := Lvl) 𝒱₀ V c t.val (Nat.le_of_lt_succ t.isLt)
  q _ := fullShare
  owed _ := D c

variable (ι : Ix)

local notation "𝕕" => dat (Ix := Ix) (U := U) (Lvl := Lvl) 𝒱₀ V D

/-- The arrays are the entry contents. -/
theorem A_eq (c : Dev nD) (w : Fin cfg2.W) : (𝕕 c).A w = V c (Pipeline.arrRef spec2 w) := by
  dsimp only [dat]

theorem Phi_castSucc (c : Dev nD) (t : Fin cfg2.N) : (𝕕 c).Φ t.castSucc = Phi 𝒱₀ V c t.val t.isLt.le := by
  dsimp only [dat]; exact Pipeline.Dat.Φ_castSucc (Phi 𝒱₀ V c) t

theorem after2_0 (c : Dev nD) (t : Fin cfg2.N) : (𝕕 c).after 0 t = iblk V c 0 t := by dsimp only [dat]
theorem after2_1 (c : Dev nD) (t : Fin cfg2.N) : (𝕕 c).after 1 t = iblk V c 1 t := by dsimp only [dat]
theorem after2_2 (c : Dev nD) (t : Fin cfg2.N) : (𝕕 c).after 2 t = iblk V c 2 t := by dsimp only [dat]
theorem after2_3 (c : Dev nD) (t : Fin cfg2.N) : (𝕕 c).after 3 t = iblk V c 3 t := by dsimp only [dat]
theorem after2_4 (c : Dev nD) (t : Fin cfg2.N) : (𝕕 c).after 4 t = iblk V c 4 t := by dsimp only [dat]
theorem after2_5 (c : Dev nD) (t : Fin cfg2.N) : (𝕕 c).after 5 t = iblk V c 5 t := by dsimp only [dat]
theorem after2_6 (c : Dev nD) (t : Fin cfg2.N) : (𝕕 c).after 6 t = iblk V c 6 t := by dsimp only [dat]
theorem after2_7 (c : Dev nD) (t : Fin cfg2.N) : (𝕕 c).after 7 t = iblk V c 7 t := by dsimp only [dat]
theorem after2_8 (c : Dev nD) (t : Fin cfg2.N) : (𝕕 c).after 8 t = iblk V c 8 t := by dsimp only [dat]
theorem after2_9 (c : Dev nD) (t : Fin cfg2.N) : (𝕕 c).after 9 t = iblk V c 9 t := by dsimp only [dat]
theorem after2_10 (c : Dev nD) (t : Fin cfg2.N) : (𝕕 c).after 10 t = iblk V c 10 t := by dsimp only [dat]
theorem after2_11 (c : Dev nD) (t : Fin cfg2.N) : (𝕕 c).after 11 t = iblk V c 11 t := by dsimp only [dat]
theorem after2_12 (c : Dev nD) (t : Fin cfg2.N) : (𝕕 c).after 12 t = iblk V c 12 t := by dsimp only [dat]
theorem after2_13 (c : Dev nD) (t : Fin cfg2.N) : (𝕕 c).after 13 t = iblk V c 13 t := by dsimp only [dat]
theorem after2_14 (c : Dev nD) (t : Fin cfg2.N) : (𝕕 c).after 14 t = outAt (Ix := Ix) (U := U) (Lvl := Lvl) 𝒱₀ V c t := by dsimp only [dat]

/-! Each input's staging buffer holds its block at every point. -/

theorem before2_0 (c : Dev nD) (t : Fin cfg2.N) (d) : (𝕕 c).before 0 t d = iblk V c 0 t :=
  ((𝕕 c).before_in_eq_fetched 0 rfl (fun _ => rfl) (fun _ _ _ => rfl) (fun t => by rw [after2_0]; unfold Dat.blockOf iblk; rw [A_eq]; try rfl) t d).trans
    (by unfold Dat.fetched Dat.blockOf iblk; rw [A_eq]; try rfl)
theorem before2_1 (c : Dev nD) (t : Fin cfg2.N) (d) : (𝕕 c).before 1 t d = iblk V c 1 t :=
  ((𝕕 c).before_in_eq_fetched 1 rfl (fun _ => rfl) (fun _ _ _ => rfl) (fun t => by rw [after2_1]; unfold Dat.blockOf iblk; rw [A_eq]; try rfl) t d).trans
    (by unfold Dat.fetched Dat.blockOf iblk; rw [A_eq]; try rfl)
theorem before2_2 (c : Dev nD) (t : Fin cfg2.N) (d) : (𝕕 c).before 2 t d = iblk V c 2 t :=
  ((𝕕 c).before_in_eq_fetched 2 rfl (fun _ => rfl) (fun _ _ _ => rfl) (fun t => by rw [after2_2]; unfold Dat.blockOf iblk; rw [A_eq]; try rfl) t d).trans
    (by unfold Dat.fetched Dat.blockOf iblk; rw [A_eq]; try rfl)
theorem before2_3 (c : Dev nD) (t : Fin cfg2.N) (d) : (𝕕 c).before 3 t d = iblk V c 3 t :=
  ((𝕕 c).before_in_eq_fetched 3 rfl (fun _ => rfl) (fun _ _ _ => rfl) (fun t => by rw [after2_3]; unfold Dat.blockOf iblk; rw [A_eq]; try rfl) t d).trans
    (by unfold Dat.fetched Dat.blockOf iblk; rw [A_eq]; try rfl)
theorem before2_4 (c : Dev nD) (t : Fin cfg2.N) (d) : (𝕕 c).before 4 t d = iblk V c 4 t :=
  ((𝕕 c).before_in_eq_fetched 4 rfl (fun _ => rfl) (fun _ _ _ => rfl) (fun t => by rw [after2_4]; unfold Dat.blockOf iblk; rw [A_eq]; try rfl) t d).trans
    (by unfold Dat.fetched Dat.blockOf iblk; rw [A_eq]; try rfl)
theorem before2_5 (c : Dev nD) (t : Fin cfg2.N) (d) : (𝕕 c).before 5 t d = iblk V c 5 t :=
  ((𝕕 c).before_in_eq_fetched 5 rfl (fun _ => rfl) (fun _ _ _ => rfl) (fun t => by rw [after2_5]; unfold Dat.blockOf iblk; rw [A_eq]; try rfl) t d).trans
    (by unfold Dat.fetched Dat.blockOf iblk; rw [A_eq]; try rfl)
theorem before2_6 (c : Dev nD) (t : Fin cfg2.N) (d) : (𝕕 c).before 6 t d = iblk V c 6 t :=
  ((𝕕 c).before_in_eq_fetched 6 rfl (fun _ => rfl) (fun _ _ _ => rfl) (fun t => by rw [after2_6]; unfold Dat.blockOf iblk; rw [A_eq]; try rfl) t d).trans
    (by unfold Dat.fetched Dat.blockOf iblk; rw [A_eq]; try rfl)
theorem before2_7 (c : Dev nD) (t : Fin cfg2.N) (d) : (𝕕 c).before 7 t d = iblk V c 7 t :=
  ((𝕕 c).before_in_eq_fetched 7 rfl (fun _ => rfl) (fun _ _ _ => rfl) (fun t => by rw [after2_7]; unfold Dat.blockOf iblk; rw [A_eq]; try rfl) t d).trans
    (by unfold Dat.fetched Dat.blockOf iblk; rw [A_eq]; try rfl)
theorem before2_8 (c : Dev nD) (t : Fin cfg2.N) (d) : (𝕕 c).before 8 t d = iblk V c 8 t :=
  ((𝕕 c).before_in_eq_fetched 8 rfl (fun _ => rfl) (fun _ _ _ => rfl) (fun t => by rw [after2_8]; unfold Dat.blockOf iblk; rw [A_eq]; try rfl) t d).trans
    (by unfold Dat.fetched Dat.blockOf iblk; rw [A_eq]; try rfl)
theorem before2_9 (c : Dev nD) (t : Fin cfg2.N) (d) : (𝕕 c).before 9 t d = iblk V c 9 t :=
  ((𝕕 c).before_in_eq_fetched 9 rfl (fun _ => rfl) (fun _ _ _ => rfl) (fun t => by rw [after2_9]; unfold Dat.blockOf iblk; rw [A_eq]; try rfl) t d).trans
    (by unfold Dat.fetched Dat.blockOf iblk; rw [A_eq]; try rfl)
theorem before2_10 (c : Dev nD) (t : Fin cfg2.N) (d) : (𝕕 c).before 10 t d = iblk V c 10 t :=
  ((𝕕 c).before_in_eq_fetched 10 rfl (fun _ => rfl) (fun _ _ _ => rfl) (fun t => by rw [after2_10]; unfold Dat.blockOf iblk; rw [A_eq]; try rfl) t d).trans
    (by unfold Dat.fetched Dat.blockOf iblk; rw [A_eq]; try rfl)
theorem before2_11 (c : Dev nD) (t : Fin cfg2.N) (d) : (𝕕 c).before 11 t d = iblk V c 11 t :=
  ((𝕕 c).before_in_eq_fetched 11 rfl (fun _ => rfl) (fun _ _ _ => rfl) (fun t => by rw [after2_11]; unfold Dat.blockOf iblk; rw [A_eq]; try rfl) t d).trans
    (by unfold Dat.fetched Dat.blockOf iblk; rw [A_eq]; try rfl)
theorem before2_12 (c : Dev nD) (t : Fin cfg2.N) (d) : (𝕕 c).before 12 t d = iblk V c 12 t :=
  ((𝕕 c).before_in_eq_fetched 12 rfl (fun _ => rfl) (fun _ _ _ => rfl) (fun t => by rw [after2_12]; unfold Dat.blockOf iblk; rw [A_eq]; try rfl) t d).trans
    (by unfold Dat.fetched Dat.blockOf iblk; rw [A_eq]; try rfl)
theorem before2_13 (c : Dev nD) (t : Fin cfg2.N) (d) : (𝕕 c).before 13 t d = iblk V c 13 t :=
  ((𝕕 c).before_in_eq_fetched 13 rfl (fun _ => rfl) (fun _ _ _ => rfl) (fun t => by rw [after2_13]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg2.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d))
    ∗ (∃ d, owns (c : Thread nD τ) (ms5 t) fullShare ((𝕕 c).before 5 t d))
    ∗ (∃ d, owns (c : Thread nD τ) (ms6 t) fullShare ((𝕕 c).before 6 t d))
    ∗ (∃ d, owns (c : Thread nD τ) (ms7 t) fullShare ((𝕕 c).before 7 t d))
    ∗ (∃ d, owns (c : Thread nD τ) (ms8 t) fullShare ((𝕕 c).before 8 t d))
    ∗ (∃ d, owns (c : Thread nD τ) (ms9 t) fullShare ((𝕕 c).before 9 t d))
    ∗ (∃ d, owns (c : Thread nD τ) (ms10 t) fullShare ((𝕕 c).before 10 t d))
    ∗ (∃ d, owns (c : Thread nD τ) (ms11 t) fullShare ((𝕕 c).before 11 t d))
    ∗ (∃ d, owns (c : Thread nD τ) (ms12 t) fullShare ((𝕕 c).before 12 t d))
    ∗ (∃ d, owns (c : Thread nD τ) (ms13 t) fullShare ((𝕕 c).before 13 t d))
    ∗ (∃ d, owns (c : Thread nD τ) (ms14 t) fullShare ((𝕕 c).before 14 t d)))

/-- and what it returns. -/
def bodyPost (c : Dev nD) (t : Fin cfg2.N) : sProp 𝕄 :=
  iprop((𝕕 c).Φ t.succ ∗ (𝕕 c).owesAt ι t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t)
    ∗ owns (c : Thread nD τ) (ms5 t) fullShare ((𝕕 c).after 5 t)
    ∗ owns (c : Thread nD τ) (ms6 t) fullShare ((𝕕 c).after 6 t)
    ∗ owns (c : Thread nD τ) (ms7 t) fullShare ((𝕕 c).after 7 t)
    ∗ owns (c : Thread nD τ) (ms8 t) fullShare ((𝕕 c).after 8 t)
    ∗ owns (c : Thread nD τ) (ms9 t) fullShare ((𝕕 c).after 9 t)
    ∗ owns (c : Thread nD τ) (ms10 t) fullShare ((𝕕 c).after 10 t)
    ∗ owns (c : Thread nD τ) (ms11 t) fullShare ((𝕕 c).after 11 t)
    ∗ owns (c : Thread nD τ) (ms12 t) fullShare ((𝕕 c).after 12 t)
    ∗ owns (c : Thread nD τ) (ms13 t) fullShare ((𝕕 c).after 13 t)
    ∗ owns (c : Thread nD τ) (ms14 t) fullShare ((𝕕 c).after 14 t))

set_option maxHeartbeats 12800000 in
/-- The body at any point. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2, before2_3, before2_4, before2_5, before2_6, before2_7, before2_8, before2_9, before2_10, before2_11, before2_12, before2_13]
  rw [show (𝕕 c).owesAt ι t.succ = (𝕕 c).owesAt ι t.castSucc from rfl,
    after2_0, after2_1, after2_2, after2_3, after2_4, after2_5, after2_6, after2_7, after2_8, after2_9, after2_10, after2_11, after2_12, after2_13, after2_14,
    show (𝕕 c).Φ t.succ = Phi 𝒱₀ V c (t.val + 1) t.isLt from rfl, Phi_castSucc]
  by_cases h : t.val % 2 = 0
  · rw [Phi_even _ _ _ _ _ h, Phi_succ_even _ _ _ _ h, show outAt (Ix := Ix) (U := U) (Lvl := Lvl) 𝒱₀ V c t = oA (Ix := Ix) (U := U) (Lvl := Lvl) 𝒱₀ V c t h from dif_pos h]
    unfold oA scrAny scrAt sA0 sA1 sA2
    iintro ⟨⟨⟨HS0, HS1, HS2⟩, Hx⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_A (Ix := Ix) (U := U) (Lvl := Lvl) 𝒱₀ c (grid2.coords t) _ _ _ _ _ _ _ _ _ _ _ _ _ _ _ _ _ _ _ _ _ _ _ _ _ _ _ _ _ _ _ _ _ _ _ _ ((hcond t).mpr h) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, ⟨%e14, H14⟩, ⟨%es0, HS0⟩, ⟨%es1, HS1⟩, ⟨%es2, HS2⟩⟩
    isplitl [HS0 HS1 HS2 Hx]
    · isplitl [HS0 HS1 HS2]
      · isplitl [HS0]
        · unfold owns; iexists _; isplitr
          swap; · iexact HS0
          ipureintro; exact View.read_writes_of_cover _ _ _ _ _ (cover_S0 (Ix := Ix) (U := U) (Lvl := Lvl) 𝒱₀ V c t h)
        isplitl [HS1]
        · unfold owns; iexists _; isplitr
          swap; · iexact HS1
          ipureintro; exact View.read_writes_of_cover _ _ _ _ _ (cover_S1 (Ix := Ix) (U := U) (Lvl := Lvl) 𝒱₀ V c t h)
        unfold owns; iexists _; isplitr
        swap; · iexact HS2
        ipureintro; exact View.read_writes_of_cover _ _ _ _ _ (cover_S2 (Ix := Ix) (U := U) (Lvl := Lvl) 𝒱₀ V c t h)
      iexact Hx
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact View.read_writes_of_cover _ _ _ _ _ (cover_A (Ix := Ix) (U := U) (Lvl := Lvl) 𝒱₀ V c t h)
  · rw [Phi_odd _ _ _ _ _ h, Phi_even _ _ _ (t.val + 1) _ (by omega), outAt, dif_neg h]
    unfold oB scrAny scrAt
    iintro ⟨⟨⟨HS0, HS1, HS2⟩, Hx⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun2_B (Ix := Ix) (U := U) (Lvl := Lvl) 𝒱₀ c (grid2.coords t) _ _ _ _ _ _ _ _ _ _ _ _ _ _ _ _ _ _ _ _ _ _ _ _ _ _ _ _ _ _ _ _ _ _ _ _ (fun hc => h ((hcond t).mp hc)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, ⟨%e14, H14⟩, ⟨%es0, HS0⟩, ⟨%es1, HS1⟩, ⟨%es2, HS2⟩⟩
    isplitl [HS0 HS1 HS2 Hx]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hx
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro; exact View.read_writes_of_cover _ _ _ _ _ (cover_B (Ix := Ix) (U := U) (Lvl := Lvl) 𝒱₀ V c t h _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (𝕕 c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.KernelIdeal.K2

end
-- ==== Proof.K2.KernelIdeal.Launch.lean ====
/-
  The launch of `KernelIdeal`: its host prefix and its three regions one after the other, every run's final state with
  the arguments as launched, the result at what the main call's proof data leave in the output array, and every
  semaphore counter at zero.
-/
module

public import proofs.«01_k».proof.Proof.K2.KernelIdeal.Frame
public import proofs.«01_k».proof.Proof.Gen.Own.KernelIdeal.RegionsD
public import Idealize.ShloMosaic.Lib.Pipeline.FrameSuffix

@[expose] public section

set_option maxRecDepth 16384

noncomputable section

namespace Cert.KernelIdeal.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Own

variable {F : FTy → Type} [FloatOps F] [Named F]
local notation "𝕄" => MT nD τ sig Unit (Elt F) ℕ (UR sig nD τ) ℕ

variable (m : (ℓ : Loc nD τ sig) → Buf (Elt F) ℓ)

/-! ## What each region leaves -/

/-- No core owes anything. -/
abbrev D₀ : Dev nD → CellTallies nD τ sig Unit := fun _ => 0

/-- The unknowns after the first region: its two tables. -/
def outs2 : Outs (F := F) := fun _ r c =>
  Function.update (Function.update (V1 m c) main_call0_v17_0 ((K0.dat (Ix := Unit) (U := UR sig nD τ) (Lvl := ℕ) Variants.none (Ve0 m) D₀ c).arrAt 1 cfg0.N)) main_call0_v17_1
    ((K0.dat (Ix := Unit) (U := UR sig nD τ) (Lvl := ℕ) Variants.none (Ve0 m) D₀ c).arrAt 2 cfg0.N) (Proc.devRef .tc r)

/-- The unknowns after the second region: the tables and the learning rates. -/
def outs3 : Outs (F := F) := fun n r c => match n with
  | 2 => outs2 m 2 r c
  | _ => Function.update (V2 m (outs2 m) c) main_call0_v18 ((K1.dat (Ix := Unit) (U := UR sig nD τ) (Lvl := ℕ) Variants.none (Ve1 m (outs2 m)) D₀ c).arrAt 3 cfg1.N) (Proc.devRef .tc r)

/-- What the third region finds. -/
abbrev Ve2 (outs : Outs (F := F)) (c : Dev nD) (b : Ref sig .tc) : Buf (Elt F) ((c : Thread nD τ).loc b) := V3 m outs c (Proc.devRef .tc b)

/-- The unknowns after the third region: the result besides. -/
def outs : Outs (F := F) := fun n r c => match n with
  | 2 => outs2 m 2 r c
  | 3 => outs3 m 3 r c
  | _ => Function.update (V3 m (outs3 m) c) main_v0 ((dat (Ix := Unit) (U := UR sig nD τ) (Lvl := ℕ) Variants.none (Ve2 m (outs3 m)) D₀ c).arrAt 14 cfg2.N) (Proc.devRef .tc r)

theorem V2_outs3 : V2 m (outs3 m) = V2 m (outs2 m) := rfl
theorem V2_outs : V2 m (outs m) = V2 m (outs2 m) := rfl
theorem V3_outs : V3 m (outs m) = V3 m (outs3 m) := rfl

theorem outs_v17_0 (c : Dev nD) : outs m 2 main_call0_v17_0 c = (K0.dat (Ix := Unit) (U := UR sig nD τ) (Lvl := ℕ) Variants.none (Ve0 m) D₀ c).arrAt 1 cfg0.N := by
  show outs2 m 2 main_call0_v17_0 c = _
  unfold outs2
  rw [Function.update_of_ne (StableHlo.devRef_ne_of_ne (by decide : (main_call0_v17_0 : Ref sig .tc) ≠ main_call0_v17_1)), Function.update_self]
theorem outs_v17_1 (c : Dev nD) : outs m 2 main_call0_v17_1 c = (K0.dat (Ix := Unit) (U := UR sig nD τ) (Lvl := ℕ) Variants.none (Ve0 m) D₀ c).arrAt 2 cfg0.N := by
  show outs2 m 2 main_call0_v17_1 c = _
  unfold outs2
  rw [Function.update_self]
theorem outs_v18 (c : Dev nD) : outs m 3 main_call0_v18 c = (K1.dat (Ix := Unit) (U := UR sig nD τ) (Lvl := ℕ) Variants.none (Ve1 m (outs m)) D₀ c).arrAt 3 cfg1.N := by
  show Function.update (V2 m (outs2 m) c) main_call0_v18 _ (Proc.devRef .tc main_call0_v18) = _
  rw [Function.update_self]; rfl
theorem outs_v0 (c : Dev nD) : outs m 4 main_v0 c = (dat (Ix := Unit) (U := UR sig nD τ) (Lvl := ℕ) Variants.none (Ve2 m (outs m)) D₀ c).arrAt 14 cfg2.N := by
  show Function.update (V3 m (outs3 m) c) main_v0 _ (Proc.devRef .tc main_v0) = _
  rw [Function.update_self]; rfl

/-! ## The third region's record -/

theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem arr2_S : Pipeline.arrRefs (τ := τ) spec2 ⊆ Pipeline.ucRefs τ sig :=
  Pipeline.arrRefs_sub_ucRefs spec2 (by decide)

theorem V4_at_main_v0 (outs : Outs (F := F)) (c : Dev nD) : V4 m outs c (Proc.devRef .tc main_v0) = outs 4 main_v0 c := by
  simp only [V4, Function.update_self]

/-- Across the region every held buffer but its arrays keeps its contents. -/
theorem rest2_eq (outs : Outs (F := F)) (c : Dev nD) : ∀ b ∈ (Pipeline.ucRefs τ sig) \ Pipeline.arrRefs (τ := τ) spec2, V4 m outs c b = V3 m outs c b := fun b hb => by
  have hn : b ∉ Pipeline.arrRefs (τ := τ) spec2 := (Finset.mem_sdiff.mp hb).2
  have h0 : b ≠ Proc.devRef .tc main_v0 := by rintro rfl; exact hn (arr2_mem 14)
  simp only [V4, Function.update_of_ne h0]

/-- The proof data of the three regions. -/
def fam0 : (p : Fin 3) → (c : Dev nD) → Dat τ (Elt F) Unit ℕ (UR sig nD τ) ℕ (cfgs p) c
  | ⟨0, _⟩ => fun c => K0.dat Variants.none (Ve0 m) D₀ c
  | ⟨1, _⟩ => fun c => K1.dat Variants.none (Ve1 m (outs m)) D₀ c
  | ⟨2, _⟩ => fun c => dat Variants.none (Ve2 m (outs m)) D₀ c

abbrev fam : (p : Fin 3) → (c : Dev nD) → Dat τ (Elt F) Unit ℕ (UR sig nD τ) ℕ (cfgs p) c := pdatsD m (outs m) Variants.none (fam0 m) D₀ D₀

/-- The levels: every cell of a TensorCore at level zero. -/
def L : GSem nD τ sig → Finset Unit := fun g => if g.1.2 = .tc then {()} else ∅
def lv : GSem nD τ sig → Unit → ℕ := fun _ _ => 0

theorem hL (g : GSem nD τ sig) (h : g.1.2 ≠ .tc) : L g = ∅ := if_neg h

theorem hcut (p : Fin 3) : Pipeline.LevelCut (pcfgs (F := F)) adm () L lv p D₀ (fun _ => 0) where
  hι c w s := by show () ∈ L _; rw [L, if_pos rfl]; exact Finset.mem_singleton.mpr rfl
  hιb c w s := le_rfl
  hD c g i h := absurd h (lt_irrefl 0)

/-- What rides between regions beside the buffers: the random-number register, and the core owing nothing. -/
def E (_ : Fin 4) (c : Dev nD) : sProp 𝕄 := iprop((∃ r, prngReg c r) ∗ ∃ W, owes (c : Thread nD τ) (0 : CellTallies nD τ sig Unit) W)

theorem hEin (i : Fin 4) (c : Dev nD) : (E i c : sProp 𝕄) ⊢ iprop((∃ r, prngReg c r) ∗ (∃ W, owes (c : Thread nD τ) (D₀ c) W) ∗ emp) := by
  unfold E
  iintro ⟨Hp, HO⟩
  isplitl [Hp]; · iexact Hp
  isplitl [HO]; · iexact HO
  iempintro

theorem hEout (i : Fin 4) (c : Dev nD) : iprop((∃ r, prngReg c r) ∗ (∃ W, owes (c : Thread nD τ) (D₀ c) W) ∗ emp) ⊢ (E i c : sProp 𝕄) := by
  unfold E
  iintro ⟨Hp, HO, -⟩
  isplitl [Hp]; · iexact Hp
  iexact HO

theorem hE3 (c : Dev nD) : (E 3 c : sProp 𝕄) ⊢ iprop(∃ W, owes (c : Thread nD τ) (0 : CellTallies nD τ sig Unit) W) := by
  unfold E
  iintro ⟨-, HO⟩
  iexact HO

set_option maxHeartbeats 4000000 in
set_option backward.isDefEq.respectTransparency.types false in
/-- The third region: its arrays held as it finds them, and with the result's array filled after it. -/
def R2 : RegionSeg (pcfgs (F := F)) adm (fam m) () defs₀ Variants.none L lv 2 :=
  Pipeline.RegionSeg.ofHeld (pcfgs (F := F)) adm (fam m) () defs₀ Variants.none L lv 2 D₀
    (fun c => iprop(∃ r, prngReg c r)) (fun c => iprop(∃ r, prngReg c r))
    launch2.toP rfl
    (fun c => (body_obligation Variants.none (Ve2 m (outs m)) D₀ () c).loose) (fun _ _ => rfl) (fun _ => rfl)
    (fun c => (fam m 2 c).share_full fun _ => rfl) (fun c => hin Variants.none (Ve2 m (outs m)) c) (fun c => hout Variants.none (Ve2 m (outs m)) c) (fun _ => 0) (hcut 2)
    (fun c => StableHlo.held (c : Thread nD τ) ((Pipeline.ucRefs τ sig) \ Pipeline.arrRefs (τ := τ) spec2) (V3 m (outs m) c))
    (V3 m (outs m)) (V4 m (outs m)) (fun _ _ => rfl)
    (fun c => fun
      | 0 => ((fam m 2 c).arrAt_in 0 rfl _).trans ((A_eq (Ix := Unit) (U := UR sig nD τ) (Lvl := ℕ) Variants.none (Ve2 m (outs m)) D₀ c 0).trans (V4_of m (outs m) c (Pipeline.arrRef spec2 0) (by decide)).symm)
      | 1 => ((fam m 2 c).arrAt_in 1 rfl _).trans ((A_eq (Ix := Unit) (U := UR sig nD τ) (Lvl := ℕ) Variants.none (Ve2 m (outs m)) D₀ c 1).trans (V4_of m (outs m) c (Pipeline.arrRef spec2 1) (by decide)).symm)
      | 2 => ((fam m 2 c).arrAt_in 2 rfl _).trans ((A_eq (Ix := Unit) (U := UR sig nD τ) (Lvl := ℕ) Variants.none (Ve2 m (outs m)) D₀ c 2).trans (V4_of m (outs m) c (Pipeline.arrRef spec2 2) (by decide)).symm)
      | 3 => ((fam m 2 c).arrAt_in 3 rfl _).trans ((A_eq (Ix := Unit) (U := UR sig nD τ) (Lvl := ℕ) Variants.none (Ve2 m (outs m)) D₀ c 3).trans (V4_of m (outs m) c (Pipeline.arrRef spec2 3) (by decide)).symm)
      | 4 => ((fam m 2 c).arrAt_in 4 rfl _).trans ((A_eq (Ix := Unit) (U := UR sig nD τ) (Lvl := ℕ) Variants.none (Ve2 m (outs m)) D₀ c 4).trans (V4_of m (outs m) c (Pipeline.arrRef spec2 4) (by decide)).symm)
      | 5 => ((fam m 2 c).arrAt_in 5 rfl _).trans ((A_eq (Ix := Unit) (U := UR sig nD τ) (Lvl := ℕ) Variants.none (Ve2 m (outs m)) D₀ c 5).trans (V4_of m (outs m) c (Pipeline.arrRef spec2 5) (by decide)).symm)
      | 6 => ((fam m 2 c).arrAt_in 6 rfl _).trans ((A_eq (Ix := Unit) (U := UR sig nD τ) (Lvl := ℕ) Variants.none (Ve2 m (outs m)) D₀ c 6).trans (V4_of m (outs m) c (Pipeline.arrRef spec2 6) (by decide)).symm)
      | 7 => ((fam m 2 c).arrAt_in 7 rfl _).trans ((A_eq (Ix := Unit) (U := UR sig nD τ) (Lvl := ℕ) Variants.none (Ve2 m (outs m)) D₀ c 7).trans (V4_of m (outs m) c (Pipeline.arrRef spec2 7) (by decide)).symm)
      | 8 => ((fam m 2 c).arrAt_in 8 rfl _).trans ((A_eq (Ix := Unit) (U := UR sig nD τ) (Lvl := ℕ) Variants.none (Ve2 m (outs m)) D₀ c 8).trans (V4_of m (outs m) c (Pipeline.arrRef spec2 8) (by decide)).symm)
      | 9 => ((fam m 2 c).arrAt_in 9 rfl _).trans ((A_eq (Ix := Unit) (U := UR sig nD τ) (Lvl := ℕ) Variants.none (Ve2 m (outs m)) D₀ c 9).trans (V4_of m (outs m) c (Pipeline.arrRef spec2 9) (by decide)).symm)
      | 10 => ((fam m 2 c).arrAt_in 10 rfl _).trans ((A_eq (Ix := Unit) (U := UR sig nD τ) (Lvl := ℕ) Variants.none (Ve2 m (outs m)) D₀ c 10).trans (V4_of m (outs m) c (Pipeline.arrRef spec2 10) (by decide)).symm)
      | 11 => ((fam m 2 c).arrAt_in 11 rfl _).trans ((A_eq (Ix := Unit) (U := UR sig nD τ) (Lvl := ℕ) Variants.none (Ve2 m (outs m)) D₀ c 11).trans (V4_of m (outs m) c (Pipeline.arrRef spec2 11) (by decide)).symm)
      | 12 => ((fam m 2 c).arrAt_in 12 rfl _).trans ((A_eq (Ix := Unit) (U := UR sig nD τ) (Lvl := ℕ) Variants.none (Ve2 m (outs m)) D₀ c 12).trans (V4_of m (outs m) c (Pipeline.arrRef spec2 12) (by decide)).symm)
      | 13 => ((fam m 2 c).arrAt_in 13 rfl _).trans ((A_eq (Ix := Unit) (U := UR sig nD τ) (Lvl := ℕ) Variants.none (Ve2 m (outs m)) D₀ c 13).trans (V4_of m (outs m) c (Pipeline.arrRef spec2 13) (by decide)).symm)
      | 14 => (outs_v0 m c).symm.trans (V4_at_main_v0 m (outs m) c).symm
      | ⟨_ + 15, h⟩ => absurd h (Nat.not_lt.2 (Nat.le_add_left _ _)))

theorem hpre2 (c : Dev nD) :
    iprop(StableHlo.held (c : Thread nD τ) (Pipeline.ucRefs τ sig) (V3 m (outs m) c) ∗ E 2 c) ⊢ (R2 m).pre c := by
  show _ ⊢ iprop(StableHlo.held (c : Thread nD τ) (Pipeline.arrRefs (τ := τ) spec2) (V3 m (outs m) c) ∗ (∃ r, prngReg c r)
    ∗ StableHlo.held (c : Thread nD τ) ((Pipeline.ucRefs τ sig) \ Pipeline.arrRefs (τ := τ) spec2) (V3 m (outs m) c) ∗ ∃ W, owes (c : Thread nD τ) (D₀ c) W)
  rw [StableHlo.held_sub_split (c : Thread nD τ) arr2_S (V3 m (outs m) c)]
  unfold E
  iintro ⟨⟨Ha, Hr⟩, Hp, HO⟩
  isplitl [Ha]; · iexact Ha
  isplitl [Hp]; · iexact Hp
  isplitl [Hr]; · iexact Hr
  iexact HO

theorem hpost2 (c : Dev nD) :
    (R2 m).post c ⊢ iprop(StableHlo.held (c : Thread nD τ) (Pipeline.ucRefs τ sig) (V4 m (outs m) c) ∗ E 3 c) := by
  show iprop(StableHlo.held (c : Thread nD τ) (Pipeline.arrRefs (τ := τ) spec2) (V4 m (outs m) c) ∗ (∃ r, prngReg c r)
    ∗ StableHlo.held (c : Thread nD τ) ((Pipeline.ucRefs τ sig) \ Pipeline.arrRefs (τ := τ) spec2) (V3 m (outs m) c) ∗ ∃ W, owes (c : Thread nD τ) (D₀ c) W) ⊢ _
  rw [StableHlo.held_sub_split (c : Thread nD τ) arr2_S (V4 m (outs m) c),
    StableHlo.held_congr (c : Thread nD τ) (S := (Pipeline.ucRefs τ sig) \ Pipeline.arrRefs (τ := τ) spec2) (rest2_eq m (outs m) c)]
  unfold E
  iintro ⟨Ha, Hp, Hr, HO⟩
  isplitl [Ha Hr]; · isplitl [Ha] <;> iassumption
  isplitl [Hp]; · iexact Hp
  iexact HO

/-! ## The run -/

/-- What a core's final memory holds: the arguments as launched, and the result. -/
def Post (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
  ∧ s.mem ((c.tc : Thread nD τ).loc main_v0) = (dat (Ix := Unit) (U := UR sig nD τ) (Lvl := ℕ) Variants.none (Ve2 m (outs m)) D₀ c).arrAt 14 cfg2.N

set_option backward.isDefEq.respectTransparency.types false in
/-- Every weakly fair run ends so, with every semaphore counter at zero. -/
theorem run (ρ : Dev nD → PrngReg) :
    θ_run defs (onTc (τ := τ) (main (F := F))) ⟨m, fun _ => 0, ρ⟩ (fun r => (∀ c : Dev nD, Post m c r.2) ∧ r.2.sem = fun _ => 0) := by
  refine Pipeline.θ_run_regions_kit_dev_sems (pcfgs (F := F)) adm (fam m) () cellOf_inj emb₁ defs₀ Variants.none L lv m ρ main
    (segs m Variants.none L lv E () (fam m)
      (R0D m (outs m) Variants.none L lv () (fam0 m) D₀ D₀ (fun _ => 0) (hcut 0) (fun _ => iprop(emp)) (outs_v17_0 m) (outs_v17_1 m))
      (R1D m (outs m) Variants.none L lv () (fam0 m) D₀ D₀ (fun _ => 0) (hcut 1) (fun _ => iprop(emp)) (outs_v18 m)) (R2 m))
    (fun c Q => by
      rewrite [main_chain c, Seg.run_eq_chain,
        show (segs m Variants.none L lv E () (fam m)
            (R0D m (outs m) Variants.none L lv () (fam0 m) D₀ D₀ (fun _ => 0) (hcut 0) (fun _ => iprop(emp)) (outs_v17_0 m) (outs_v17_1 m))
            (R1D m (outs m) Variants.none L lv () (fam0 m) D₀ D₀ (fun _ => 0) (hcut 1) (fun _ => iprop(emp)) (outs_v18 m)) (R2 m) c).map Seg.prog = [
          StableHlo.seq hostOps0, Prog.lift (.customCall (Pipeline.entry 0) ()), Prog.lift (.customCall (Pipeline.entry 1) ()),
          Prog.lift (.customCall (Pipeline.entry 2) ())] from rfl]
      dsimp (config := { failIfUnchanged := false }) only
      exact .rfl)
    (fun c => by simp only [segs, Seg.pipes_host, Seg.pipes_region, Seg.pipes_nil]; decide) D₀ hL
    (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl,
      hpre0D m (outs m) Variants.none L lv () (fam0 m) D₀ D₀ (fun _ => 0) (hcut 0) E (fun _ => iprop(emp)) (hEin 0) (outs_v17_0 m) (outs_v17_1 m) c,
      (hpost0D m (outs m) Variants.none L lv () (fam0 m) D₀ D₀ (fun _ => 0) (hcut 0) E (fun _ => iprop(emp)) (hEout 1) (outs_v17_0 m) (outs_v17_1 m) c).trans
        (hpre1D m (outs m) Variants.none L lv () (fam0 m) D₀ D₀ (fun _ => 0) (hcut 1) E (fun _ => iprop(emp)) (hEin 1) (outs_v18 m) c),
      (hpost1D m (outs m) Variants.none L lv () (fam0 m) D₀ D₀ (fun _ => 0) (hcut 1) E (fun _ => iprop(emp)) (hEout 2) (outs_v18 m) c).trans (hpre2 m c),
      (hpost2 m c).trans (sep_mono .rfl (hE3 c))⟩)
    (hinit := ?_) (QY := Post m) (hfin := fun c s' => ?_)
    (hQ := fun _ h hz => ⟨h, funext fun g => hz g (.inr (regions_no_unscoped g.2))⟩)
  · -- the launch: each core's unscoped buffers are held at `V0`, the rest is `E 0`
    refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    unfold E
    iintro ⟨⟨Hh, -, HO, -, Hp, -⟩, -⟩
    imodintro
    isplitl [Hh]; · iexact Hh
    isplitl [Hp]; · iexists _; iexact Hp
    iexists _; iexact HO
  · -- the end: every buffer named is read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have rd := fun (r : Ref sig .tc) (hr : (Proc.devRef .tc r : DevRef τ sig) ∈ Pipeline.ucRefs τ sig) => h (Proc.devRef .tc r) hr
      exact ⟨⟨(rd main_arg0 (Finset.mem_filter.mpr ⟨StableHlo.devRef_mem_tcRefs main_arg0, by decide⟩)).trans (V4_main_arg0 m (outs m) c),
        (rd main_arg1 (Finset.mem_filter.mpr ⟨StableHlo.devRef_mem_tcRefs main_arg1, by decide⟩)).trans (V4_main_arg1 m (outs m) c),
        (rd main_arg2 (Finset.mem_filter.mpr ⟨StableHlo.devRef_mem_tcRefs main_arg2, by decide⟩)).trans (V4_main_arg2 m (outs m) c),
        (rd main_arg3 (Finset.mem_filter.mpr ⟨StableHlo.devRef_mem_tcRefs main_arg3, by decide⟩)).trans (V4_main_arg3 m (outs m) c),
        (rd main_arg4 (Finset.mem_filter.mpr ⟨StableHlo.devRef_mem_tcRefs main_arg4, by decide⟩)).trans (V4_main_arg4 m (outs m) c),
        (rd main_arg5 (Finset.mem_filter.mpr ⟨StableHlo.devRef_mem_tcRefs main_arg5, by decide⟩)).trans (V4_main_arg5 m (outs m) c),
        (rd main_arg6 (Finset.mem_filter.mpr ⟨StableHlo.devRef_mem_tcRefs main_arg6, by decide⟩)).trans (V4_main_arg6 m (outs m) c),
        (rd main_arg7 (Finset.mem_filter.mpr ⟨StableHlo.devRef_mem_tcRefs main_arg7, by decide⟩)).trans (V4_main_arg7 m (outs m) c),
        (rd main_arg8 (Finset.mem_filter.mpr ⟨StableHlo.devRef_mem_tcRefs main_arg8, by decide⟩)).trans (V4_main_arg8 m (outs m) c),
        (rd main_arg9 (Finset.mem_filter.mpr ⟨StableHlo.devRef_mem_tcRefs main_arg9, by decide⟩)).trans (V4_main_arg9 m (outs m) c),
        (rd main_arg10 (Finset.mem_filter.mpr ⟨StableHlo.devRef_mem_tcRefs main_arg10, by decide⟩)).trans (V4_main_arg10 m (outs m) c),
        (rd main_arg11 (Finset.mem_filter.mpr ⟨StableHlo.devRef_mem_tcRefs main_arg11, by decide⟩)).trans (V4_main_arg11 m (outs m) c),
        (rd main_arg12 (Finset.mem_filter.mpr ⟨StableHlo.devRef_mem_tcRefs main_arg12, by decide⟩)).trans (V4_main_arg12 m (outs m) c),
        (rd main_arg13 (Finset.mem_filter.mpr ⟨StableHlo.devRef_mem_tcRefs main_arg13, by decide⟩)).trans (V4_main_arg13 m (outs m) c),
        (rd main_arg14 (Finset.mem_filter.mpr ⟨StableHlo.devRef_mem_tcRefs main_arg14, by decide⟩)).trans (V4_main_arg14 m (outs m) c)⟩,
        (rd main_v0 (Finset.mem_filter.mpr ⟨StableHlo.devRef_mem_tcRefs main_v0, by decide⟩)).trans ((V4_at_main_v0 m (outs m) c).trans (outs_v0 m c))⟩
    · iexact HSI

end Cert.KernelIdeal.K2

end
-- ==== Proof.Frames.lean ====
/-
  The frame claims, and `preserves`: every run of each program ends with its arguments as launched and every semaphore
  counter at zero, and the named constant is the real that the certificate gives it.
-/
module

public import proofs.«01_k».proof.Defs
public import proofs.«01_k».proof.Proof.K2.Kernel.Launch
public import proofs.«01_k».proof.Proof.K2.KernelIdeal.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_p : Cert.quiescent_Kernel := fun m g _ =>
  (θ_run Cert.Kernel.defs _ _).mono (fun _ h => ⟨fun c => (h.1 c).1, h.2⟩) (Cert.Kernel.K2.run m g)

theorem frame_pi : Cert.quiescent_KernelIdeal := fun m g _ =>
  (θ_run Cert.KernelIdeal.defs _ _).mono (fun _ h => ⟨fun c => (h.1 c).1, h.2⟩) (Cert.KernelIdeal.K2.run m g)

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "rope_exponent" .f32 0xBD5D0C55#32
    ((-((Real.log 1000000) * (1 / 256)) : ℝ) : EReal) rfl

end Cert.Proof

end
-- ==== Proof.Value.Spec.lean ====
/-
  The fast-weight layer over the extended reals, written row by row and chunk by chunk: what the kernel and the
  reference are each shown to compute.
-/
module

public import Idealize.ShloMosaic.Lib.Pointwise

@[expose] public section

noncomputable section

namespace Cert.Spec

open Idealize.ShloMosaic

/-- One token of one fast-weight head. -/
abbrev Row := Fin 512 → EReal

/-- One token's rotary angles, or their cosines or sines. -/
abbrev Half := Fin 256 → EReal

/-- A chunk of rows. -/
abbrev Chunk := Fin 2048 → Fin 512 → EReal

/-- A fast-weight matrix. -/
abbrev Weight := Fin 512 → Fin 512 → EReal

/-- The root mean square normalisation of a row, with its weights. -/
def rms (x w : Row) : Row := fun d =>
  w d * (x d * Ideal.rsqrt (Ideal.div (∑ k, x k * x k) (Ideal.ofBits .f32 0x44000000#32) + Ideal.ofBits .f32 0x358637BD#32))

def silu (x : EReal) : EReal := x * Ideal.logistic x

/-- The derivative of `silu`, in the reference's form. -/
def dsilu (x : EReal) : EReal := Ideal.logistic x * (1 + x * (1 - Ideal.logistic x))

def act (x w : Row) : Row := fun d => silu (rms x w d)

/-- The rotary embedding of a row. -/
def rope (x : Row) (c s : Half) : Row := fun d =>
  if h : d.val < 256 then x d * c ⟨d.val, h⟩ - x ⟨256 + d.val, by omega⟩ * s ⟨d.val, h⟩
  else x d * c ⟨d.val - 256, by omega⟩ + x ⟨d.val - 256, by omega⟩ * s ⟨d.val - 256, by omega⟩

/-- A chunk through one of the two input matrices. -/
def gate (k : Chunk) (W : Weight) : Chunk := fun r e => ∑ d, k r d * W e d

def hid (k : Chunk) (W0 W2 : Weight) : Chunk := fun r e => silu (gate k W0 r e) * gate k W2 r e

/-- The fast-weight network on a chunk of queries. -/
def net (q : Chunk) (W0 W1 W2 : Weight) : Chunk := fun r d => ∑ e, hid q W0 W2 r e * W1 d e

/-- The gradient at the hidden layer. -/
def dhid (v : Chunk) (W1 : Weight) : Chunk := fun r e => ∑ d, v r d * W1 d e

def step0 (k v : Chunk) (l : Fin 2048 → EReal) (W0 W1 W2 : Weight) : Weight := fun e d =>
  W0 e d + ∑ r, dhid v W1 r e * gate k W2 r e * dsilu (gate k W0 r e) * l r * k r d

def step1 (k v : Chunk) (l : Fin 2048 → EReal) (W0 W1 W2 : Weight) : Weight := fun d e =>
  W1 d e + ∑ r, v r d * l r * hid k W0 W2 r e

def step2 (k v : Chunk) (l : Fin 2048 → EReal) (W0 W1 W2 : Weight) : Weight := fun e d =>
  W2 e d + ∑ r, dhid v W1 r e * silu (gate k W0 r e) * l r * k r d

/-- The softplus function as both programs write it. -/
def softplus (x : EReal) : EReal := max x 0 + Ideal.log1p (Ideal.exp (-(max x (-x))))

end Cert.Spec

end
-- ==== Proof.Value.Args.lean ====
/-
  The whole layer as a function of the fifteen arguments.
-/
module

public import proofs.«01_k».proof.Proof.Value.Spec

@[expose] public section

set_option maxRecDepth 16384

noncomputable section

namespace Cert.Spec

open Idealize.ShloMosaic

/-- The arguments, in their order. -/
@[ext] structure Args where
  q : FVec Ideal (⟨4, ![2, 4096, 16, 128]⟩ : Shape) .f32
  k : FVec Ideal (⟨4, ![2, 4096, 8, 128]⟩ : Shape) .f32
  v : FVec Ideal (⟨4, ![2, 4096, 8, 128]⟩ : Shape) .f32
  hs : FVec Ideal (⟨3, ![2, 4096, 2048]⟩ : Shape) .f32
  pos : IVec (⟨2, ![2, 4096]⟩ : Shape) 32
  w0 : FVec Ideal (⟨3, ![4, 512, 512]⟩ : Shape) .f32
  w1 : FVec Ideal (⟨3, ![4, 512, 512]⟩ : Shape) .f32
  w2 : FVec Ideal (⟨3, ![4, 512, 512]⟩ : Shape) .f32
  lw : FVec Ideal (⟨2, ![12, 2048]⟩ : Shape) .f32
  lb : FVec Ideal (⟨1, ![12]⟩ : Shape) .f32
  sc : FVec Ideal (⟨2, ![2048, 2]⟩ : Shape) .f32
  off : FVec Ideal (⟨2, ![2048, 2]⟩ : Shape) .f32
  qn : FVec Ideal (⟨1, ![512]⟩ : Shape) .f32
  kn : FVec Ideal (⟨1, ![512]⟩ : Shape) .f32
  tn : FVec Ideal (⟨1, ![512]⟩ : Shape) .f32

variable (A : Args)

/-- Column `d` of head `h` among the 2048 columns. -/
def col (h : Fin 4) (d : Fin 512) : Fin 2048 := ⟨h.val * 512 + d.val, by omega⟩

/-- Row `r` of chunk `n`. -/
def tok (n : Fin 2) (r : Fin 2048) : Fin 4096 := ⟨n.val * 2048 + r.val, by omega⟩

/-- The head of width 128, and the key head, that column `d` of head `h` lies in, and the lane there. -/
def qhead (h : Fin 4) (d : Fin 512) : Fin 16 := ⟨h.val * 4 + d.val / 128, by omega⟩
def khead (h : Fin 4) (d : Fin 512) : Fin 8 := ⟨h.val * 2 + d.val / 256, by omega⟩
def lane128 (d : Fin 512) : Fin 128 := ⟨d.val % 128, by omega⟩

theorem qhead_eq (h : Fin 4) (d : Fin 512) (p : (h.val * 512 + d.val) / 128 < 16) : (⟨(h.val * 512 + d.val) / 128, p⟩ : Fin 16) = qhead h d :=
  Fin.ext (show (h.val * 512 + d.val) / 128 = h.val * 4 + d.val / 128 by omega)
theorem khead_eq (h : Fin 4) (d : Fin 512) (p : (h.val * 512 + d.val) / 256 < 8) : (⟨(h.val * 512 + d.val) / 256, p⟩ : Fin 8) = khead h d :=
  Fin.ext (show (h.val * 512 + d.val) / 256 = h.val * 2 + d.val / 256 by omega)
theorem lane128_eq (h : Fin 4) (d : Fin 512) (p : (h.val * 512 + d.val) % 128 < 128) : (⟨(h.val * 512 + d.val) % 128, p⟩ : Fin 128) = lane128 d :=
  Fin.ext (show (h.val * 512 + d.val) % 128 = d.val % 128 by omega)

/-- The scaled and shifted query and key rows. -/
def qrow (b : Fin 2) (h : Fin 4) (s : Fin 4096) : Row := fun d =>
  A.q (ix4 b s (qhead h d) (lane128 d)) * A.sc (ix2 (col h d) 0) + A.off (ix2 (col h d) 0)
def krow (b : Fin 2) (h : Fin 4) (s : Fin 4096) : Row := fun d =>
  A.k (ix4 b s (khead h d) (lane128 d)) * A.sc (ix2 (col h d) 1) + A.off (ix2 (col h d) 1)

/-- The rotary frequencies, in the reference's form. -/
def freq : Half := fun j =>
  Ideal.div 1 (Ideal.pow (Ideal.ofBits .f32 0x49742400#32)
    (Ideal.div (0 + Ideal.ofBits .f32 0x40000000#32 * ((BitVec.ofNat 32 j.val).toInt : ℝ)) (Ideal.ofBits .f32 0x44000000#32)))

/-- The rotary angle at a token, by the position ids of the first batch row. -/
def angle (s : Fin 4096) : Half := fun j => ((A.pos (ix2 0 s)).toInt : ℝ) * freq j

/-- The learning rate `i` of head `h` at a token. -/
def rate (b : Fin 2) (h : Fin 4) (s : Fin 4096) (i : Fin 3) : EReal :=
  softplus ((∑ x : Fin 2048, A.hs (ix3 b s x) * A.lw (ix2 (⟨i.val * 4 + h.val, by omega⟩ : Fin 12) x))
    + A.lb (ix1 (⟨i.val * 4 + h.val, by omega⟩ : Fin 12)) + Ideal.ofBits .f32 0xC0DD083C#32)

/-- The chunks of head `h`. -/
def Q (b : Fin 2) (h : Fin 4) (n : Fin 2) : Chunk := fun r =>
  rope (act (qrow A b h (tok n r)) (fun d => A.qn (ix1 d))) (fun j => Ideal.cos (angle A (tok n r) j)) (fun j => Ideal.sin (angle A (tok n r) j))
def K (b : Fin 2) (h : Fin 4) (n : Fin 2) : Chunk := fun r =>
  rope (act (krow A b h (tok n r)) (fun d => A.kn (ix1 d))) (fun j => Ideal.cos (angle A (tok n r) j)) (fun j => Ideal.sin (angle A (tok n r) j))
def V (b : Fin 2) (h : Fin 4) (n : Fin 2) : Chunk := fun r d => A.v (ix4 b (tok n r) (khead h d) (lane128 d))
def L (b : Fin 2) (h : Fin 4) (n : Fin 2) (i : Fin 3) : Fin 2048 → EReal := fun r => rate A b h (tok n r) i

/-- The initial weights of head `h`. -/
def M0 (h : Fin 4) : Weight := fun e d => A.w0 (ix3 h e d)
def M1 (h : Fin 4) : Weight := fun d e => A.w1 (ix3 h d e)
def M2 (h : Fin 4) : Weight := fun e d => A.w2 (ix3 h e d)

/-- The weights after the first chunk. -/
def N0 (b : Fin 2) (h : Fin 4) : Weight := step0 (K A b h 0) (V A b h 0) (L A b h 0 0) (M0 A h) (M1 A h) (M2 A h)
def N1 (b : Fin 2) (h : Fin 4) : Weight := step1 (K A b h 0) (V A b h 0) (L A b h 0 1) (M0 A h) (M1 A h) (M2 A h)
def N2 (b : Fin 2) (h : Fin 4) : Weight := step2 (K A b h 0) (V A b h 0) (L A b h 0 2) (M0 A h) (M1 A h) (M2 A h)

/-- The network on the chunks of head `h`: the first with the initial weights, the second with the updated ones. -/
def O (b : Fin 2) (h : Fin 4) (n : Fin 2) : Chunk :=
  if n = 0 then net (Q A b h n) (M0 A h) (M1 A h) (M2 A h) else net (Q A b h n) (N0 A b h) (N1 A b h) (N2 A b h)

/-- The result. -/
def result : FVec Ideal (⟨3, ![2, 4096, 2048]⟩ : Shape) .f32 := fun i =>
  rms (O A (i 0) ⟨(i 2).val / 512, by have := (i 2).isLt; change (i 2).val < 2048 at this; omega⟩
        ⟨(i 1).val / 2048, by have := (i 1).isLt; change (i 1).val < 4096 at this; omega⟩ ⟨(i 1).val % 2048, by omega⟩)
    (fun d => A.tn (ix1 d)) ⟨(i 2).val % 512, by omega⟩

theorem result_at (b : Fin 2) (s : Fin 4096) (x : Fin 2048) :
    result A (ix3 b s x) = rms (O A b ⟨x.val / 512, by omega⟩ ⟨s.val / 2048, by omega⟩ ⟨s.val % 2048, by omega⟩) (fun d => A.tn (ix1 d)) ⟨x.val % 512, by omega⟩ := rfl

end Cert.Spec

end
-- ==== Proof.Value.Host.lean ====
/-
  The kernel's operands when its calls start: reshapes and transposes of the arguments, read at an index.
-/
module

public import proofs.«01_k».proof.Proof.K2.KernelIdeal.Launch
public import proofs.«01_k».proof.Proof.Value.Args
public import Idealize.ShloMosaic.Lib.Claim

@[expose] public section

set_option maxRecDepth 16384

noncomputable section

namespace Cert.KernelIdeal.Value

open Idealize.ShloMosaic Idealize.ShloMosaic.TcCoe Idealize.ShloMosaic.StableHlo
open Cert.KernelIdeal Cert.KernelIdeal.Gen
open Cert.Spec (Args Row Half Chunk Weight)

variable (m : (ℓ : Loc nD τ sig) → Buf (Elt Ideal) ℓ) (c : Dev nD)

/-- The arguments that a memory holds. -/
def args : Args where
  q := m ((c.tc : Thread nD τ).loc main_arg0)
  k := m ((c.tc : Thread nD τ).loc main_arg1)
  v := m ((c.tc : Thread nD τ).loc main_arg2)
  hs := m ((c.tc : Thread nD τ).loc main_arg3)
  pos := m ((c.tc : Thread nD τ).loc main_arg4)
  w0 := m ((c.tc : Thread nD τ).loc main_arg5)
  w1 := m ((c.tc : Thread nD τ).loc main_arg6)
  w2 := m ((c.tc : Thread nD τ).loc main_arg7)
  lw := m ((c.tc : Thread nD τ).loc main_arg8)
  lb := m ((c.tc : Thread nD τ).loc main_arg9)
  sc := m ((c.tc : Thread nD τ).loc main_arg10)
  off := m ((c.tc : Thread nD τ).loc main_arg11)
  qn := m ((c.tc : Thread nD τ).loc main_arg12)
  kn := m ((c.tc : Thread nD τ).loc main_arg13)
  tn := m ((c.tc : Thread nD τ).loc main_arg14)

theorem v0_eq : (show FVec Ideal S2x4096x2048 .f32 from V1 m c (Proc.devRef .tc main_call0_v0)) = shapeCast S2x4096x2048 (args m c).q shapeCasts_S2x4096x16x128_S2x4096x2048 := by
  unfold V1
  entry_read
  rfl

theorem v0_at (b : Fin 2) (s : Fin 4096) (x : Fin 2048) : (show FVec Ideal S2x4096x2048 .f32 from V1 m c (Proc.devRef .tc main_call0_v0)) (ix3 b s x) = (args m c).q (ix4 b s ⟨x.val / 128, by omega⟩ ⟨x.val % 128, by omega⟩) := by
  rw [v0_eq]
  pointwise []

theorem v1_eq : (show FVec Ideal S2x4096x1024 .f32 from V1 m c (Proc.devRef .tc main_call0_v1)) = shapeCast S2x4096x1024 (args m c).k shapeCasts_S2x4096x8x128_S2x4096x1024 := by
  unfold V1
  entry_read
  rfl

theorem v1_at (b : Fin 2) (s : Fin 4096) (x : Fin 1024) : (show FVec Ideal S2x4096x1024 .f32 from V1 m c (Proc.devRef .tc main_call0_v1)) (ix3 b s x) = (args m c).k (ix4 b s ⟨x.val / 128, by omega⟩ ⟨x.val % 128, by omega⟩) := by
  rw [v1_eq]
  pointwise []

theorem v2_eq : (show FVec Ideal S2x4096x1024 .f32 from V1 m c (Proc.devRef .tc main_call0_v2)) = shapeCast S2x4096x1024 (args m c).v shapeCasts_S2x4096x8x128_S2x4096x1024 := by
  unfold V1
  entry_read
  rfl

theorem v2_at (b : Fin 2) (s : Fin 4096) (x : Fin 1024) : (show FVec Ideal S2x4096x1024 .f32 from V1 m c (Proc.devRef .tc main_call0_v2)) (ix3 b s x) = (args m c).v (ix4 b s ⟨x.val / 128, by omega⟩ ⟨x.val % 128, by omega⟩) := by
  rw [v2_eq]
  pointwise []

theorem v5_eq : (show FVec Ideal S12x2048 .f32 from V1 m c (Proc.devRef .tc main_call0_v5)) = shapeCast S12x2048 (transpose S4x3x2048 [1, 0, 2] (shapeCast S3x4x2048 (args m c).lw shapeCasts_S12x2048_S3x4x2048) transposes_S3x4x2048_S4x3x2048_1_0_2) shapeCasts_S4x3x2048_S12x2048 := by
  unfold V1
  entry_read
  rfl

theorem v5_at (i : Fin 12) (x : Fin 2048) : (show FVec Ideal S12x2048 .f32 from V1 m c (Proc.devRef .tc main_call0_v5)) (ix2 i x) = (args m c).lw (ix2 ⟨i.val % 3 * 4 + i.val / 3, by omega⟩ x) := by
  rw [v5_eq]
  pointwise []

theorem v8_eq : (show FVec Ideal S1x12 .f32 from V1 m c (Proc.devRef .tc main_call0_v8)) = shapeCast S1x12 (transpose S4x3 [1, 0] (shapeCast S3x4 (args m c).lb shapeCasts_S12_S3x4) transposes_S3x4_S4x3_1_0) shapeCasts_S4x3_S1x12 := by
  unfold V1
  entry_read
  rfl

theorem v8_at (i : Fin 12) : (show FVec Ideal S1x12 .f32 from V1 m c (Proc.devRef .tc main_call0_v8)) (ix2 0 i) = (args m c).lb (ix1 ⟨i.val % 3 * 4 + i.val / 3, by omega⟩) := by
  rw [v8_eq]
  pointwise []

theorem v9_eq : (show FVec Ideal S2x2048 .f32 from V1 m c (Proc.devRef .tc main_call0_v9)) = transpose S2x2048 [1, 0] (args m c).sc transposes_S2048x2_S2x2048_1_0 := by
  unfold V1
  entry_read
  rfl

theorem v9_at (i : Fin 2) (x : Fin 2048) : (show FVec Ideal S2x2048 .f32 from V1 m c (Proc.devRef .tc main_call0_v9)) (ix2 i x) = (args m c).sc (ix2 x i) := by
  rw [v9_eq]
  pointwise []

theorem v10_eq : (show FVec Ideal S2x2048 .f32 from V1 m c (Proc.devRef .tc main_call0_v10)) = transpose S2x2048 [1, 0] (args m c).off transposes_S2048x2_S2x2048_1_0 := by
  unfold V1
  entry_read
  rfl

theorem v10_at (i : Fin 2) (x : Fin 2048) : (show FVec Ideal S2x2048 .f32 from V1 m c (Proc.devRef .tc main_call0_v10)) (ix2 i x) = (args m c).off (ix2 x i) := by
  rw [v10_eq]
  pointwise []

theorem v11_eq : (show FVec Ideal S1x512 .f32 from V1 m c (Proc.devRef .tc main_call0_v11)) = shapeCast S1x512 (args m c).qn shapeCasts_S512_S1x512 := by
  unfold V1
  entry_read
  rfl

theorem v11_at (x : Fin 512) : (show FVec Ideal S1x512 .f32 from V1 m c (Proc.devRef .tc main_call0_v11)) (ix2 0 x) = (args m c).qn (ix1 x) := by
  rw [v11_eq]
  pointwise []

theorem v12_eq : (show FVec Ideal S1x512 .f32 from V1 m c (Proc.devRef .tc main_call0_v12)) = shapeCast S1x512 (args m c).kn shapeCasts_S512_S1x512 := by
  unfold V1
  entry_read
  rfl

theorem v12_at (x : Fin 512) : (show FVec Ideal S1x512 .f32 from V1 m c (Proc.devRef .tc main_call0_v12)) (ix2 0 x) = (args m c).kn (ix1 x) := by
  rw [v12_eq]
  pointwise []

theorem v13_eq : (show FVec Ideal S1x512 .f32 from V1 m c (Proc.devRef .tc main_call0_v13)) = shapeCast S1x512 (args m c).tn shapeCasts_S512_S1x512 := by
  unfold V1
  entry_read
  rfl

theorem v13_at (x : Fin 512) : (show FVec Ideal S1x512 .f32 from V1 m c (Proc.devRef .tc main_call0_v13)) (ix2 0 x) = (args m c).tn (ix1 x) := by
  rw [v13_eq]
  pointwise []

theorem v16_eq : (show IVec S4096x1 32 from V1 m c (Proc.devRef .tc main_call0_v16)) = shapeCast S4096x1 (shapeCast S4096 (extractStridedSlice S1x4096 ![0, 0] (args m c).pos slices_S2x4096_S1x4096_0_0) shapeCasts_S1x4096_S4096) shapeCasts_S4096_S4096x1 := by
  unfold V1
  entry_read
  rfl

theorem v16_at (s : Fin 4096) : (show IVec S4096x1 32 from V1 m c (Proc.devRef .tc main_call0_v16)) (ix2 s 0) = (args m c).pos (ix2 0 s) := by
  rw [v16_eq]
  pointwise []

end Cert.KernelIdeal.Value

end
-- ==== Proof.Value.Consts.lean ====
/-
  The float words of the rotary frequencies, as the reals they are.
-/
module

public import Idealize.ShloMosaic.PureOps.Ideal

@[expose] public section

namespace Cert.Spec

open Idealize.ShloMosaic

theorem word_million : Ideal.ofBits .f32 0x49742400#32 = ((1000000 : ℝ) : EReal) := by
  simp [Ideal.ofBits, Ideal.ieee, -EReal.coe_mul]
  norm_num

theorem word_two : Ideal.ofBits .f32 0x40000000#32 = ((2 : ℝ) : EReal) := by
  simp [Ideal.ofBits, Ideal.ieee, -EReal.coe_mul]
  norm_num

theorem word_512 : Ideal.ofBits .f32 0x44000000#32 = ((512 : ℝ) : EReal) := by
  simp [Ideal.ofBits, Ideal.ieee, -EReal.coe_mul]
  norm_num

end Cert.Spec
-- ==== Proof.Value.Freq.lean ====
/-
  The rotary frequencies: the exponential of a multiple of `-log 1000000 / 256` is the reciprocal of a power of 1000000.
-/
module

public import proofs.«01_k».proof.Proof.Value.Args
public import proofs.«01_k».proof.Proof.Value.Consts

@[expose] public section

namespace Cert.Spec

open Idealize.ShloMosaic

theorem freq_real (x : ℝ) : 1 * (1 / Real.rpow 1000000 (2 * x * (1 / 512))) = Real.exp (x * -(Real.log 1000000 * (1 / 256))) := by
  show 1 * (1 / (1000000 : ℝ) ^ (2 * x * (1 / 512))) = _
  rw [Real.rpow_def_of_pos (by norm_num), one_mul, one_div (Real.exp _), ← Real.exp_neg]
  congr 1
  ring

theorem freq_eq (j : Fin 256) :
    freq j = Ideal.exp (((BitVec.ofNat 32 j.val).toInt : ℝ) * ((-((Real.log 1000000) * (1 / 256)) : ℝ) : EReal)) := by
  have h : Real.rpow 1000000 (2 * ((BitVec.ofNat 32 j.val).toInt : ℝ) * (1 / 512)) ≠ 0 :=
    ne_of_gt (Real.rpow_pos_of_pos (by norm_num) _)
  unfold freq
  rw [word_million, word_two, word_512, zero_add, ← EReal.coe_mul, ← EReal.coe_mul,
    Ideal.div_coe (by norm_num : (512 : ℝ) ≠ 0), ← EReal.coe_mul, Ideal.pow_coe_coe, Ideal.div_coe h]
  rw [← EReal.coe_one, ← EReal.coe_mul, freq_real]
  rfl

end Cert.Spec
-- ==== Proof.Value.Tables.lean ====
/-
  What the kernel's first call leaves: the cosines and sines of the rotary angles.
-/
module

public import proofs.«01_k».proof.Proof.Value.Host
public import proofs.«01_k».proof.Proof.Value.Freq
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.SL Idealize.SL.RA
open Cert.KernelIdeal.Own Cert.KernelIdeal.K2
open Idealize.ShloMosaic.Pipeline (Dat)
open Idealize.SL.Sem

/-- The angles of a block of positions. -/
theorem pay1_at (p : IVec S512x1 32) (r : Fin 512) (j : Fin 256) :
    k0_pay1 (F := Ideal) p (ix2 r j) = ((p (ix2 r 0)).toInt : ℝ) * Spec.freq j := by
  rw [Spec.freq_eq]
  have hn : Named.named (F := Ideal) κ "rope_exponent" (φ := .f32) 0xBD5D0C55#32 = ((-((Real.log 1000000) * (1 / 256)) : ℝ) : EReal) :=
    IdealRules.named_const.ideal_named_scalar _ _ _ _ rfl
  pointwise [k0_pay1]
  rw [hn]
  rfl

theorem idx0 : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Ideal) ℓ) (c : Dev nD)

/-- The tables. -/
def cosTab : FVec Ideal S4096x256 .bf16 := fun i => Ideal.cos (Spec.angle (args m c) (i 0) (i 1))
def sinTab : FVec Ideal S4096x256 .bf16 := fun i => Ideal.sin (Spec.angle (args m c) (i 0) (i 1))

theorem pos_at (t : Fin cfg0.N) (ht : t.val < 8) (r : Fin 512) :
    (show IVec S512x1 32 from K0.iblk (Ve0 m) c 0 t) (ix2 r 0) = (args m c).pos (ix2 0 ⟨t.val * 512 + r.val, by omega⟩) := by
  refine Eq.trans ?_ (v16_at m c _)
  blk_point [K0.iblk, Ve0, idx0 t]

theorem cos_eq : (K0.dat (Ix := Unit) (U := UR sig nD τ) (Lvl := ℕ) Variants.none (Ve0 m) D₀ c).arrAt 1 cfg0.N = cosTab m c := by
  refine Dat.arrAt_eq_of_covers _ 1 _ (by decide +kernel) fun t _ y => ?_
  have ht : t.val < 8 := t.isLt
  blk_simp
  rw [K0.after0_1]
  unfold K0.outsAt0 K0.out0_A_1
  dsimp only
  frame_out
  obtain ⟨r, j, rfl⟩ : ∃ (r : Fin 512) (j : Fin 256), y = ix2 r j := ⟨y 0, y 1, eq_ix2 y⟩
  refine Eq.trans (congrArg Ideal.cos (pay1_at _ r j)) ?_
  refine (congrArg (fun p : BitVec 32 => Ideal.cos ((p.toInt : ℝ) * Spec.freq j)) (pos_at m c t ht r)).trans ?_
  have e : ((View.whole main_call0_v17_0).slice (win0_1.rect t)).emb (ix2 r j) = ix2 (⟨t.val * 512 + r.val, by omega⟩ : Fin 4096) j := by
    blk_ext [idx0 t]
  exact (congrArg (cosTab m c) e).symm

theorem sin_eq : (K0.dat (Ix := Unit) (U := UR sig nD τ) (Lvl := ℕ) Variants.none (Ve0 m) D₀ c).arrAt 2 cfg0.N = sinTab m c := by
  refine Dat.arrAt_eq_of_covers _ 2 _ (by decide +kernel) fun t _ y => ?_
  have ht : t.val < 8 := t.isLt
  blk_simp
  rw [K0.after0_2]
  unfold K0.outsAt0 K0.out0_A_2
  dsimp only
  frame_out
  obtain ⟨r, j, rfl⟩ : ∃ (r : Fin 512) (j : Fin 256), y = ix2 r j := ⟨y 0, y 1, eq_ix2 y⟩
  refine Eq.trans (congrArg Ideal.sin (pay1_at _ r j)) ?_
  refine (congrArg (fun p : BitVec 32 => Ideal.sin ((p.toInt : ℝ) * Spec.freq j)) (pos_at m c t ht r)).trans ?_
  have e : ((View.whole main_call0_v17_1).slice (win0_2.rect t)).emb (ix2 r j) = ix2 (⟨t.val * 512 + r.val, by omega⟩ : Fin 4096) j := by
    blk_ext [idx0 t]
  exact (congrArg (sinTab m c) e).symm

end Cert.KernelIdeal.Value

end
-- ==== Proof.Value.Rates.lean ====
/-
  What the kernel's second call leaves: the learning rates.
-/
module

public import proofs.«01_k».proof.Proof.Value.Host
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.SL Idealize.SL.RA
open Idealize.SL.Sem
open Cert.KernelIdeal.Own Cert.KernelIdeal.K2
open Idealize.ShloMosaic.Pipeline (Dat)

/-- A block's rates: one row of the weights for each of the twelve pairs of a head and a rate. -/
theorem rates_at (x : FVec Ideal S1x1024x2048 .f32) (W : FVec Ideal S12x2048 .f32) (b : FVec Ideal S1x12 .f32) (r : Fin 1024) (k : Fin 12) :
    k1_pay3 (F := Ideal) x W b (ix2 r k)
      = Spec.softplus ((∑ z : Fin 2048, x (ix3 0 r z) * W (ix2 k z)) + b (ix2 0 k) + Ideal.ofBits .f32 0xC0DD083C#32) := by
  pointwise [k1_pay3, Spec.softplus]
  rw [if_neg (fun h => h rfl), zero_sub]
  rfl

theorem idx1 : ∀ t : Fin cfg1.N, win1_0.index t = ![t.val / 4, t.val % 4, 0] ∧ win1_1.index t = ![0, 0] ∧ win1_2.index t = ![0, 0] ∧ win1_3.index t = ![t.val / 4, 0, t.val % 4, 0] :=
  (by decide +kernel : ∀ t : Fin grid1.N, _)

/-- The four stores of a block, read back. -/
theorem block_at (V : (c : Dev nD) → (b : Ref sig .tc) → Buf (Elt Ideal) ((c : Thread nD τ).loc b)) (c : Dev nD) (t : Fin cfg1.N) (y : S1x4x1024x3.Idx)
    (j : S1024x12.Idx) (hj0 : (j 0 : ℕ) = y 2) (hj1 : (j 1 : ℕ) = y 1 * 3 + y 3) :
    (show FVec Ideal S1x4x1024x3 .f32 from K1.outsAt1 (Ix := Unit) (U := UR sig nD τ) (Lvl := ℕ) Variants.none V c t) y
      = k1_pay3 (F := Ideal) (K1.iblk V c 0 t) (K1.iblk V c 1 t) (K1.iblk V c 2 t) j := by
  unfold K1.outsAt1 K1.out1_A_3
  frame_out
  canon_tiles x h
  all_goals (open_payloads; pointwise; blk_ext)

variable (m : (ℓ : Loc nD τ sig) → Buf (Elt Ideal) ℓ) (c : Dev nD)

/-- The rates, head by head. -/
def rateTab : FVec Ideal S2x4x4096x3 .f32 := fun i => Spec.rate (args m c) (i 0) (i 1) (i 2) (i 3)

theorem v5_after : V2 m (outs m) c (Proc.devRef .tc main_call0_v5) = V1 m c (Proc.devRef .tc main_call0_v5) := by
  exact V2_of m (outs m) c main_call0_v5 (by decide)
theorem v8_after : V2 m (outs m) c (Proc.devRef .tc main_call0_v8) = V1 m c (Proc.devRef .tc main_call0_v8) := by
  exact V2_of m (outs m) c main_call0_v8 (by decide)
theorem arg3_after : V2 m (outs m) c (Proc.devRef .tc main_arg3) = V1 m c (Proc.devRef .tc main_arg3) := by
  exact V2_of m (outs m) c main_arg3 (by decide)

theorem hs_at (t : Fin cfg1.N) (ht : t.val < 8) (r : Fin 1024) (z : Fin 2048) :
    (show FVec Ideal S1x1024x2048 .f32 from K1.iblk (Ve1 m (outs m)) c 0 t) (ix3 0 r z)
      = (args m c).hs (ix3 ⟨t.val / 4, by omega⟩ ⟨t.val % 4 * 1024 + r.val, by omega⟩ z) := by
  refine Eq.trans ?_ (congrFun (arg3_after m c) _)
  blk_point [K1.iblk, Ve1, idx1 t]

theorem lw_at (t : Fin cfg1.N) (k : Fin 12) (z : Fin 2048) :
    (show FVec Ideal S12x2048 .f32 from K1.iblk (Ve1 m (outs m)) c 1 t) (ix2 k z)
      = (args m c).lw (ix2 ⟨k.val % 3 * 4 + k.val / 3, by omega⟩ z) := by
  refine Eq.trans ?_ ((congrFun (v5_after m c) _).trans (v5_at m c k z))
  blk_point [K1.iblk, Ve1, idx1 t]

theorem lb_at (t : Fin cfg1.N) (k : Fin 12) :
    (show FVec Ideal S1x12 .f32 from K1.iblk (Ve1 m (outs m)) c 2 t) (ix2 0 k)
      = (args m c).lb (ix1 ⟨k.val % 3 * 4 + k.val / 3, by omega⟩) := by
  refine Eq.trans ?_ ((congrFun (v8_after m c) _).trans (v8_at m c k))
  blk_point [K1.iblk, Ve1, idx1 t]

theorem rate_eq : (K1.dat (Ix := Unit) (U := UR sig nD τ) (Lvl := ℕ) Variants.none (Ve1 m (outs m)) D₀ c).arrAt 3 cfg1.N = rateTab m c := by
  refine Dat.arrAt_eq_of_covers _ 3 _ (by decide +kernel) fun t _ y => ?_
  have ht : t.val < 8 := t.isLt
  blk_simp
  rw [K1.after1_3]
  obtain ⟨u, h, r, i, rfl⟩ : ∃ (u : Fin 1) (h : Fin 4) (r : Fin 1024) (i : Fin 3), y = ix4 u h r i := ⟨y 0, y 1, y 2, y 3, eq_ix4 y⟩
  refine (block_at _ c t (ix4 u h r i) (ix2 r ⟨h.val * 3 + i.val, by omega⟩) rfl rfl).trans ?_
  refine (rates_at _ _ _ r _).trans ?_
  have e : ((View.whole main_call0_v18).slice (win1_3.rect t)).emb (ix4 u h r i)
      = ix4 (⟨t.val / 4, by omega⟩ : Fin 2) h (⟨t.val % 4 * 1024 + r.val, by omega⟩ : Fin 4096) i := by
    blk_ext [idx1 t]
  refine Eq.trans ?_ (congrArg (rateTab m c) e).symm
  unfold rateTab Spec.rate
  have ek : ∀ p q, (⟨(h.val * 3 + i.val) % 3 * 4 + (h.val * 3 + i.val) / 3, p⟩ : Fin 12) = ⟨i.val * 4 + h.val, q⟩ := fun p q => Fin.ext (by
    show (h.val * 3 + i.val) % 3 * 4 + (h.val * 3 + i.val) / 3 = i.val * 4 + h.val
    omega)
  refine congrArg Spec.softplus ?_
  refine congrArg₂ (fun a b : EReal => a + b + Ideal.ofBits .f32 0xC0DD083C#32) (Finset.sum_congr rfl fun z _ => ?_) ?_
  · exact congrArg₂ (fun a b : EReal => a * b) (hs_at m c t ht r z) ((lw_at m c t _ z).trans (by rw [ek]; rfl))
  · exact (lb_at m c t _).trans (by rw [ek]; rfl)

end Cert.KernelIdeal.Value

end
-- ==== Proof.Value.Pay.lean ====
/-
  The payloads of the main call read at an index: the query and key rows, the network's output, and the three weight
  updates.
-/
module

public import proofs.«01_k».proof.Proof.Gen.KernelIdeal.Skeleton
public import proofs.«01_k».proof.Proof.Value.Spec

@[expose] public section

set_option maxRecDepth 16384

noncomputable section

namespace Cert.KernelIdeal.Pay

open Idealize.ShloMosaic Idealize.ShloMosaic.TcCoe
open Cert.KernelIdeal Cert.KernelIdeal.Gen
open Cert.Spec

/-- A chunk, or a weight, as a function of two coordinates. -/
abbrev chunk (x : FVec Ideal S2048x512 .f32) : Chunk := fun r d => x (ix2 r d)
abbrev weight (x : FVec Ideal S512x512 .f32) : Weight := fun e d => x (ix2 e d)
abbrev row (x : FVec Ideal S1x512 .f32) : Row := fun d => x (ix2 0 d)
abbrev half (x : FVec Ideal S2048x256 .bf16) (r : Fin 2048) : Half := fun j => x (ix2 r j)

theorem pay6_at (v5 v9 : FVec Ideal S1x512 .f32) (v13 : FVec Ideal S1x2048x512 .f32) (r : Fin 2048) (d : Fin 512) :
    k2_pay6 (F := Ideal) v5 v9 v13 (ix2 r d) = v13 (ix3 0 r d) * v5 (ix2 0 d) + v9 (ix2 0 d) := by
  pointwise [k2_pay6]

theorem pay10_at (x : FVec Ideal S2048x512 .f32) (w : FVec Ideal S1x512 .f32) (r : Fin 2048) (d : Fin 512) :
    k2_pay10 (F := Ideal) x w (ix2 r d) = act (chunk x r) (row w) d := by
  pointwise [k2_pay10, act, silu, rms]

theorem pay11_at (x : FVec Ideal S2048x512 .f32) (w : FVec Ideal S1x512 .f32) (r : Fin 2048) (d : Fin 512) :
    k2_pay11 (F := Ideal) x w (ix2 r d) = act (chunk x r) (row w) d := by
  pointwise [k2_pay11, act, silu, rms]

theorem pay17_at (x : FVec Ideal S2048x512 .f32) (c s : FVec Ideal S2048x256 .f32) (r : Fin 2048) (d : Fin 512) :
    k2_pay17 (F := Ideal) x c s (ix2 r d) = rope (chunk x r) (fun j => c (ix2 r j)) (fun j => s (ix2 r j)) d := by
  pointwise [k2_pay17, rope]
  by_cases h : (d : ℕ) < 256
  · simp only [dif_pos h]
  · have hd : (⟨256 + ((d : ℕ) - 256), by omega⟩ : Fin 512) = d := Fin.ext (show 256 + ((d : ℕ) - 256) = d by omega)
    simp only [dif_neg h, hd]

/-- The two forms of the derivative of `silu`. -/
theorem dsilu_eq (x : EReal) :
    Ideal.logistic x + x * Ideal.logistic x * (1 - Ideal.logistic x) = dsilu x := by
  unfold dsilu
  induction x using EReal.rec with
  | bot => simp
  | top => simp
  | coe r =>
    rw [Ideal.logistic_coe]
    generalize (1 + Real.exp (-r))⁻¹ = g
    norm_cast
    ring

/-- The rows of a chunk before the activation: a block scaled and shifted column by column. -/
abbrev affine (x : FVec Ideal S1x2048x512 .f32) (a b : FVec Ideal S1x512 .f32) : Chunk :=
  fun r d => x (ix3 0 r d) * a (ix2 0 d) + b (ix2 0 d)

/-- The chunk of queries. -/
def queries (x : FVec Ideal S1x2048x512 .f32) (a b w : FVec Ideal S1x512 .f32) (c s : FVec Ideal S2048x256 .bf16) : Chunk :=
  fun r => rope (act (affine x a b r) (row w)) (half c r) (half s r)

theorem query_at (x : FVec Ideal S1x2048x512 .f32) (a b w : FVec Ideal S1x512 .f32) (c s : FVec Ideal S2048x256 .bf16)
    (r : Fin 2048) (d : Fin 512) :
    k2_pay17 (F := Ideal) (k2_pay10 (k2_pay6 a b x) w) (k2_pay12 c) (k2_pay13 s) (ix2 r d) = queries x a b w c s r d := by
  rw [pay17_at]
  have h : chunk (k2_pay10 (F := Ideal) (k2_pay6 a b x) w) r = act (affine x a b r) (row w) := by
    funext d
    rw [chunk, pay10_at]
    congr 1
    funext d
    exact pay6_at _ _ _ _ _
  have hc : (fun j => k2_pay12 (F := Ideal) c (ix2 r j)) = half c r := by
    funext j
    pointwise [k2_pay12]
  have hs : (fun j => k2_pay13 (F := Ideal) s (ix2 r j)) = half s r := by
    funext j
    pointwise [k2_pay13]
  rw [h, hc, hs]
  rfl

/-- The output product of the main call is the network on the roped rows. -/
theorem pay21_at (x : FVec Ideal S2048x512 .f32) (w : FVec Ideal S1x512 .f32) (c s : FVec Ideal S2048x256 .bf16)
    (W0 W2 W1 : FVec Ideal S512x512 .f32) (r : Fin 2048) (d : Fin 512) :
    k2_pay21 (F := Ideal) (k2_pay12 c) (k2_pay13 s) (k2_pay14 x w) (k2_pay15 x w) (k2_pay16 x w c s) W0 W2 W1 (ix2 r d)
      = net (chunk (k2_pay17 (k2_pay10 x w) (k2_pay12 c) (k2_pay13 s))) (weight W0) (weight W1) (weight W2) r d := by
  have hk : k2_pay21 (F := Ideal) (k2_pay12 c) (k2_pay13 s) (k2_pay14 x w) (k2_pay15 x w) (k2_pay16 x w c s) W0 W2 W1
      = matmul dot_S2048x512_S512x512_S2048x512_1_1_0_0_n_n none
          (mulf (k2_pay28 (k2_pay17 (k2_pay10 x w) (k2_pay12 c) (k2_pay13 s)) W0) (k2_pay26 (k2_pay17 (k2_pay10 x w) (k2_pay12 c) (k2_pay13 s)) W2))
          W1 (constant S2048x512 .f32 0x00000000#32) := rfl
  rw [hk]
  generalize k2_pay17 (F := Ideal) (k2_pay10 x w) (k2_pay12 c) (k2_pay13 s) = k
  pointwise [k2_pay28, k2_pay27, k2_pay26, k2_pay25, net, hid, silu, gate]

theorem pay24_at (o : FVec Ideal S2048x512 .f32) (tn : FVec Ideal S1x512 .f32) (u : Fin 1) (r : Fin 2048) (d : Fin 512) :
    k2_pay24 (F := Ideal) o (k2_pay22 tn) (divf (shapeCast S2048x1 (multiReduction .add [1] S2048 (mulf o o) 0x00000000#32 reduces_S2048x512_S2048 (.inl rfl) rfl) shapeCasts_S2048_S2048x1) (broadcast S2048x1 (Scalar.ofBits .f32 0x44000000#32))) (ix3 u r d)
      = rms (chunk o r) (row tn) d := by
  pointwise [k2_pay24, k2_pay22, rms]

theorem pay1_at (k v : FVec Ideal S2048x512 .f32) (l : FVec Ideal S2048x1 .f32) (W0 W1 W2 : FVec Ideal S512x512 .f32) (e d : Fin 512) :
    k2_pay1 (F := Ideal) k W0 (k2_pay32 v k l W0 W2 W1) (ix2 e d)
      = step0 (chunk k) (chunk v) (fun r => l (ix2 r 0)) (weight W0) (weight W1) (weight W2) e d := by
  pointwise [k2_pay1, k2_pay32, k2_pay29, k2_pay28, k2_pay27, k2_pay26, k2_pay25, step0, dhid, gate]
  simp only [dsilu_eq]

theorem pay31_at (k v : FVec Ideal S2048x512 .f32) (l : FVec Ideal S2048x1 .f32) (W0 W1 W2 : FVec Ideal S512x512 .f32) (d e : Fin 512) :
    k2_pay31 (F := Ideal) v k l W0 W2 W1 (ix2 d e)
      = step1 (chunk k) (chunk v) (fun r => l (ix2 r 0)) (weight W0) (weight W1) (weight W2) d e := by
  pointwise [k2_pay31, k2_pay28, k2_pay27, k2_pay26, k2_pay25, step1, hid, silu, gate]

theorem pay2_at (k v : FVec Ideal S2048x512 .f32) (l : FVec Ideal S2048x1 .f32) (W0 W1 W2 : FVec Ideal S512x512 .f32) (e d : Fin 512) :
    k2_pay2 (F := Ideal) k l (k2_pay30 v k W0 W1) W2 (ix2 e d)
      = step2 (chunk k) (chunk v) (fun r => l (ix2 r 0)) (weight W0) (weight W1) (weight W2) e d := by
  pointwise [k2_pay2, k2_pay30, k2_pay29, k2_pay28, k2_pay27, k2_pay26, k2_pay25, step2, dhid, silu, gate]

theorem pay7_at (a b : FVec Ideal S1x512 .f32) (lo hi : FVec Ideal S1x2048x128 .f32) (r : Fin 2048) (d : Fin 512) :
    k2_pay7 (F := Ideal) a b lo hi (ix2 r d) = k2_pay9 (k2_pay8 lo) hi (ix2 r d) * a (ix2 0 d) + b (ix2 0 d) := by
  pointwise [k2_pay7, k2_pay9, k2_pay8]

/-- The lane of a key or value block that feeds lane `d` of its head: each of the two key heads of a block is used twice. -/
def lane (d : Fin 512) : Fin 256 := ⟨d.val / 256 * 128 + d.val % 128, by omega⟩

/-- Two half blocks, each repeated, are the block at `lane`. -/
theorem pay9_at (x : FVec Ideal S1x2048x256 .f32) (lo hi : FVec Ideal S1x2048x128 .f32)
    (hlo : ∀ (r : Fin 2048) (j : Fin 128), lo (ix3 0 r j) = x (ix3 0 r ⟨j.val, by omega⟩))
    (hhi : ∀ (r : Fin 2048) (j : Fin 128), hi (ix3 0 r j) = x (ix3 0 r ⟨128 + j.val, by omega⟩)) (r : Fin 2048) (d : Fin 512) :
    k2_pay9 (F := Ideal) (k2_pay8 lo) hi (ix2 r d) = x (ix3 0 r (lane d)) := by
  pointwise [k2_pay9, k2_pay8]
  have key : ∀ a : Fin 256, a.val = (lane d).val → x (ix3 0 r a) = x (ix3 0 r (lane d)) := fun a h => by rw [Fin.ext h]
  have hl : (lane d).val = d.val / 256 * 128 + d.val % 128 := rfl
  have hd := d.isLt
  by_cases h0 : (d : ℕ) < 128
  · simp only [dif_pos h0]
    rw [hlo]; exact key _ (by rw [hl]; show (d : ℕ) = _; omega)
  · by_cases h1 : (d : ℕ) - 128 < 128
    · simp only [dif_neg h0, dif_pos h1]
      rw [hlo]; exact key _ (by rw [hl]; show (d : ℕ) - 128 = _; omega)
    · by_cases h2 : (d : ℕ) - 128 - 128 < 128
      · simp only [dif_neg h0, dif_neg h1, dif_pos h2]
        rw [hhi]; exact key _ (by rw [hl]; show 128 + ((d : ℕ) - 128 - 128) = _; omega)
      · simp only [dif_neg h0, dif_neg h1, dif_neg h2]
        rw [hhi]; exact key _ (by rw [hl]; show 128 + ((d : ℕ) - 128 - 128 - 128) = _; omega)

/-! ## The chunks, from whole blocks -/

/-- The queries from the block, the two scale rows and the tables. -/
def Qb (x : FVec Ideal S1x2048x512 .f32) (sc of : FVec Ideal S2x512 .f32) (w : FVec Ideal S1x512 .f32) (c s : FVec Ideal S2048x256 .bf16) : Chunk :=
  fun r => rope (act (fun d => x (ix3 0 r d) * sc (ix2 0 d) + of (ix2 0 d)) (row w)) (half c r) (half s r)

/-- The keys likewise, each key lane used twice. -/
def Kb (x : FVec Ideal S1x2048x256 .f32) (sc of : FVec Ideal S2x512 .f32) (w : FVec Ideal S1x512 .f32) (c s : FVec Ideal S2048x256 .bf16) : Chunk :=
  fun r => rope (act (fun d => x (ix3 0 r (lane d)) * sc (ix2 1 d) + of (ix2 1 d)) (row w)) (half c r) (half s r)

def Vb (x : FVec Ideal S1x2048x256 .f32) : Chunk := fun r d => x (ix3 0 r (lane d))

/-- A weight block, and a column of the learning rates' block. -/
def Wb (x : FVec Ideal S1x512x512 .f32) : Weight := fun e d => x (ix3 0 e d)
def Lb (x : FVec Ideal S1x1x2048x3 .f32) (i : Fin 3) : Fin 2048 → EReal := fun r => x (ix4 0 0 r i)

theorem queries_eq (x : FVec Ideal S1x2048x512 .f32) (sc of : FVec Ideal S2x512 .f32) (a b w : FVec Ideal S1x512 .f32) (c s : FVec Ideal S2048x256 .bf16)
    (ha : ∀ d : Fin 512, a (ix2 0 d) = sc (ix2 0 d)) (hb : ∀ d : Fin 512, b (ix2 0 d) = of (ix2 0 d)) :
    chunk (k2_pay17 (F := Ideal) (k2_pay10 (k2_pay6 a b x) w) (k2_pay12 c) (k2_pay13 s)) = Qb x sc of w c s := by
  funext r d
  have h : affine x a b = fun r d => x (ix3 0 r d) * sc (ix2 0 d) + of (ix2 0 d) := by
    funext r d
    show x (ix3 0 r d) * a (ix2 0 d) + b (ix2 0 d) = _
    rw [ha, hb]
  rw [chunk, query_at, queries, Qb, h]

theorem keys_eq (x : FVec Ideal S1x2048x256 .f32) (sc of : FVec Ideal S2x512 .f32) (a b w : FVec Ideal S1x512 .f32) (lo hi : FVec Ideal S1x2048x128 .f32)
    (c s : FVec Ideal S2048x256 .bf16)
    (ha : ∀ d : Fin 512, a (ix2 0 d) = sc (ix2 1 d)) (hb : ∀ d : Fin 512, b (ix2 0 d) = of (ix2 1 d))
    (hlo : ∀ (r : Fin 2048) (j : Fin 128), lo (ix3 0 r j) = x (ix3 0 r ⟨j.val, by omega⟩))
    (hhi : ∀ (r : Fin 2048) (j : Fin 128), hi (ix3 0 r j) = x (ix3 0 r ⟨128 + j.val, by omega⟩)) :
    chunk (k2_pay17 (F := Ideal) (k2_pay11 (k2_pay7 a b lo hi) w) (k2_pay12 c) (k2_pay13 s)) = Kb x sc of w c s := by
  funext r d
  rw [chunk, pay17_at, Kb]
  have h : chunk (k2_pay11 (F := Ideal) (k2_pay7 a b lo hi) w) r = act (fun d => x (ix3 0 r (lane d)) * sc (ix2 1 d) + of (ix2 1 d)) (row w) := by
    funext d
    rw [chunk, pay11_at]
    congr 1
    funext d
    rw [chunk, pay7_at, pay9_at x lo hi hlo hhi, ha, hb]
  have hc : (fun j => k2_pay12 (F := Ideal) c (ix2 r j)) = half c r := by
    funext j
    pointwise [k2_pay12]
  have hs : (fun j => k2_pay13 (F := Ideal) s (ix2 r j)) = half s r := by
    funext j
    pointwise [k2_pay13]
  rw [h, hc, hs]

theorem values_eq (x : FVec Ideal S1x2048x256 .f32) (lo hi : FVec Ideal S1x2048x128 .f32)
    (hlo : ∀ (r : Fin 2048) (j : Fin 128), lo (ix3 0 r j) = x (ix3 0 r ⟨j.val, by omega⟩))
    (hhi : ∀ (r : Fin 2048) (j : Fin 128), hi (ix3 0 r j) = x (ix3 0 r ⟨128 + j.val, by omega⟩)) :
    chunk (k2_pay9 (F := Ideal) (k2_pay8 lo) hi) = Vb x := by
  funext r d
  exact pay9_at x lo hi hlo hhi r d

/-- The stored block: the network's rows, normalised. -/
theorem out_at (x : FVec Ideal S2048x512 .f32) (w : FVec Ideal S1x512 .f32) (c s : FVec Ideal S2048x256 .bf16)
    (W0 W2 W1 : FVec Ideal S512x512 .f32) (tn : FVec Ideal S1x512 .f32) (u : Fin 1) (r : Fin 2048) (d : Fin 512) :
    k2_pay24 (F := Ideal) (k2_pay21 (k2_pay12 c) (k2_pay13 s) (k2_pay14 x w) (k2_pay15 x w) (k2_pay16 x w c s) W0 W2 W1) (k2_pay22 tn)
        (k2_pay23 (k2_pay12 c) (k2_pay13 s) (k2_pay14 x w) (k2_pay15 x w) (k2_pay16 x w c s) W0 W2 W1) (ix3 u r d)
      = rms (net (chunk (k2_pay17 (k2_pay10 x w) (k2_pay12 c) (k2_pay13 s))) (weight W0) (weight W1) (weight W2) r) (row tn) d := by
  refine (pay24_at _ tn u r d).trans ?_
  congr 1
  funext d
  exact pay21_at x w c s W0 W2 W1 r d

theorem pay3_eq (x : FVec Ideal S1x512x512 .f32) : weight (k2_pay3 (F := Ideal) x) = Wb x := by
  funext e d
  show k2_pay3 (F := Ideal) x (ix2 e d) = x (ix3 0 e d)
  pointwise [k2_pay3]
theorem pay4_eq (x : FVec Ideal S1x512x512 .f32) : weight (k2_pay4 (F := Ideal) x) = Wb x := by
  funext e d
  show k2_pay4 (F := Ideal) x (ix2 e d) = x (ix3 0 e d)
  pointwise [k2_pay4]
theorem pay5_eq (x : FVec Ideal S1x512x512 .f32) : weight (k2_pay5 (F := Ideal) x) = Wb x := by
  funext e d
  show k2_pay5 (F := Ideal) x (ix2 e d) = x (ix3 0 e d)
  pointwise [k2_pay5]
theorem pay18_eq (y : FVec Ideal S1x1x2048x3 .f32) (x : FVec Ideal S1x1x2048x1 .f32) (h : ∀ r : Fin 2048, x (ix4 0 0 r 0) = y (ix4 0 0 r 0)) :
    (fun r => k2_pay18 (F := Ideal) x (ix2 r 0)) = Lb y 0 := by
  funext r
  refine Eq.trans ?_ (h r)
  pointwise [k2_pay18]
theorem pay19_eq (y : FVec Ideal S1x1x2048x3 .f32) (x : FVec Ideal S1x1x2048x1 .f32) (h : ∀ r : Fin 2048, x (ix4 0 0 r 0) = y (ix4 0 0 r 1)) :
    (fun r => k2_pay19 (F := Ideal) x (ix2 r 0)) = Lb y 1 := by
  funext r
  refine Eq.trans ?_ (h r)
  pointwise [k2_pay19]
theorem pay20_eq (y : FVec Ideal S1x1x2048x3 .f32) (x : FVec Ideal S1x1x2048x1 .f32) (h : ∀ r : Fin 2048, x (ix4 0 0 r 0) = y (ix4 0 0 r 2)) :
    (fun r => k2_pay20 (F := Ideal) x (ix2 r 0)) = Lb y 2 := by
  funext r
  refine Eq.trans ?_ (h r)
  pointwise [k2_pay20]

end Cert.KernelIdeal.Pay

end
-- ==== Proof.Value.Open.lean ====
/-
  What the main call leaves at a grid point, as the network and the weight updates on the chunks of the point's blocks.
-/
module

public import proofs.«01_k».proof.Proof.K2.KernelIdeal.Frame
public import proofs.«01_k».proof.Proof.Value.Pay
public import Idealize.ShloMosaic.Lib.Pipeline.ValueKit
public import Idealize.ShloMosaic.Lib.Pipeline.ReadBack

@[expose] public section

set_option maxRecDepth 16384

noncomputable section

namespace Cert.KernelIdeal.K2

open Cert.KernelIdeal Cert.KernelIdeal.Gen
open Idealize.ShloMosaic Idealize.ShloMosaic.TcCoe Idealize.ShloMosaic.Tactic
open Idealize.SL Idealize.SL.RA
open Idealize.SL.Sem
open Cert.KernelIdeal.Pay Cert.Spec

variable {Ix : Type} [DecidableEq Ix] {U : Type} [URA U] {Lvl : Type} [Preorder Lvl]
variable (𝒱₀ : Variants) (V : (c : Dev nD) → (b : Ref sig .tc) → Buf (Elt Ideal) ((c : Thread nD τ).loc b))

/-! ## The blocks of a point at their types -/

abbrev B0 (c : Dev nD) (t : Fin cfg2.N) : FVec Ideal S1x2048x512 .f32 := iblk V c 0 t
abbrev B1 (c : Dev nD) (t : Fin cfg2.N) : FVec Ideal S1x2048x256 .f32 := iblk V c 1 t
abbrev B2 (c : Dev nD) (t : Fin cfg2.N) : FVec Ideal S1x2048x256 .f32 := iblk V c 2 t
abbrev B3 (c : Dev nD) (t : Fin cfg2.N) : FVec Ideal S1x1x2048x3 .f32 := iblk V c 3 t
abbrev B4 (c : Dev nD) (t : Fin cfg2.N) : FVec Ideal S2048x256 .bf16 := iblk V c 4 t
abbrev B5 (c : Dev nD) (t : Fin cfg2.N) : FVec Ideal S2048x256 .bf16 := iblk V c 5 t
abbrev B6 (c : Dev nD) (t : Fin cfg2.N) : FVec Ideal S1x512x512 .f32 := iblk V c 6 t
abbrev B7 (c : Dev nD) (t : Fin cfg2.N) : FVec Ideal S1x512x512 .f32 := iblk V c 7 t
abbrev B8 (c : Dev nD) (t : Fin cfg2.N) : FVec Ideal S1x512x512 .f32 := iblk V c 8 t
abbrev B9 (c : Dev nD) (t : Fin cfg2.N) : FVec Ideal S2x512 .f32 := iblk V c 9 t
abbrev B10 (c : Dev nD) (t : Fin cfg2.N) : FVec Ideal S2x512 .f32 := iblk V c 10 t
abbrev B11 (c : Dev nD) (t : Fin cfg2.N) : FVec Ideal S1x512 .f32 := iblk V c 11 t
abbrev B12 (c : Dev nD) (t : Fin cfg2.N) : FVec Ideal S1x512 .f32 := iblk V c 12 t
abbrev B13 (c : Dev nD) (t : Fin cfg2.N) : FVec Ideal S1x512 .f32 := iblk V c 13 t

/-- The queries, keys and values of a point. -/
abbrev Qt (c : Dev nD) (t : Fin cfg2.N) : Chunk := Qb (B0 V c t) (B9 V c t) (B10 V c t) (B11 V c t) (B4 V c t) (B5 V c t)
abbrev Kt (c : Dev nD) (t : Fin cfg2.N) : Chunk := Kb (B1 V c t) (B9 V c t) (B10 V c t) (B12 V c t) (B4 V c t) (B5 V c t)
abbrev Vt (c : Dev nD) (t : Fin cfg2.N) : Chunk := Vb (B2 V c t)

/-! ## An even point -/

theorem oA_at (c : Dev nD) (t : Fin cfg2.N) (h : t.val % 2 = 0) (u : Fin 1) (r : Fin 2048) (d : Fin 512) :
    oA (Ix := Ix) (U := U) (Lvl := Lvl) 𝒱₀ V c t h (ix3 u r d)
      = rms (net (Qt V c t) (Wb (B6 V c t)) (Wb (B7 V c t)) (Wb (B8 V c t)) r) (row (B13 V c t)) d := by
  unfold oA runA
  frame_out
  refine (out_at _ _ _ _ _ _ _ _ u r d).trans ?_
  rw [queries_eq (B0 V c t) (B9 V c t) (B10 V c t) _ _ _ _ _ (fun d => ?_) (fun d => ?_), pay3_eq, pay4_eq, pay5_eq]
  · pointwise
  · pointwise

theorem oB_at (c : Dev nD) (t : Fin cfg2.N) (h : ¬t.val % 2 = 0) (s0 s1 s2 : Vec Ideal S512x512 .f32) (u : Fin 1) (r : Fin 2048) (d : Fin 512) :
    oB (Ix := Ix) (U := U) (Lvl := Lvl) 𝒱₀ V c t h s0 s1 s2 (ix3 u r d)
      = rms (net (Qt V c t) (weight s0) (weight s1) (weight s2) r) (row (B13 V c t)) d := by
  unfold oB runB
  frame_out
  rw [read_unread_whole cc2_scratch0, read_unread_whole cc2_scratch1, read_unread_whole cc2_scratch2]
  refine (out_at _ _ _ _ _ _ _ _ u r d).trans ?_
  rw [queries_eq (B0 V c t) (B9 V c t) (B10 V c t) _ _ _ _ _ (fun d => ?_) (fun d => ?_)]
  · pointwise
  · pointwise

theorem sA0_eq (c : Dev nD) (t : Fin cfg2.N) (h : t.val % 2 = 0) :
    weight (sA0 (Ix := Ix) (U := U) (Lvl := Lvl) 𝒱₀ V c t h)
      = step0 (Kt V c t) (Vt V c t) (Lb (B3 V c t) 0) (Wb (B6 V c t)) (Wb (B7 V c t)) (Wb (B8 V c t)) := by
  funext e d
  unfold weight sA0 runA
  frame_out
  refine (pay1_at _ _ _ _ _ _ e d).trans ?_
  rw [keys_eq (B1 V c t) (B9 V c t) (B10 V c t) _ _ _ _ _ _ _ (fun d => ?_) (fun d => ?_) (fun r j => ?_) (fun r j => ?_),
    values_eq (B2 V c t) _ _ (fun r j => ?_) (fun r j => ?_), pay18_eq (B3 V c t) _ (fun r => ?_), pay3_eq, pay4_eq, pay5_eq] <;> pointwise

theorem sA1_eq (c : Dev nD) (t : Fin cfg2.N) (h : t.val % 2 = 0) :
    weight (sA1 (Ix := Ix) (U := U) (Lvl := Lvl) 𝒱₀ V c t h)
      = step1 (Kt V c t) (Vt V c t) (Lb (B3 V c t) 1) (Wb (B6 V c t)) (Wb (B7 V c t)) (Wb (B8 V c t)) := by
  funext d e
  unfold weight sA1 runA
  frame_out
  refine (pay31_at _ _ _ _ _ _ d e).trans ?_
  rw [keys_eq (B1 V c t) (B9 V c t) (B10 V c t) _ _ _ _ _ _ _ (fun d => ?_) (fun d => ?_) (fun r j => ?_) (fun r j => ?_),
    values_eq (B2 V c t) _ _ (fun r j => ?_) (fun r j => ?_), pay19_eq (B3 V c t) _ (fun r => ?_), pay3_eq, pay4_eq, pay5_eq] <;> pointwise

theorem sA2_eq (c : Dev nD) (t : Fin cfg2.N) (h : t.val % 2 = 0) :
    weight (sA2 (Ix := Ix) (U := U) (Lvl := Lvl) 𝒱₀ V c t h)
      = step2 (Kt V c t) (Vt V c t) (Lb (B3 V c t) 2) (Wb (B6 V c t)) (Wb (B7 V c t)) (Wb (B8 V c t)) := by
  funext e d
  unfold weight sA2 runA
  frame_out
  refine (pay2_at _ _ _ _ _ _ e d).trans ?_
  rw [keys_eq (B1 V c t) (B9 V c t) (B10 V c t) _ _ _ _ _ _ _ (fun d => ?_) (fun d => ?_) (fun r j => ?_) (fun r j => ?_),
    values_eq (B2 V c t) _ _ (fun r j => ?_) (fun r j => ?_), pay20_eq (B3 V c t) _ (fun r => ?_), pay3_eq, pay4_eq, pay5_eq] <;> pointwise

end Cert.KernelIdeal.K2

end
-- ==== Proof.Value.Blocks.lean ====
/-
  The main call's blocks at a grid point, as the chunks of the arguments.
-/
module

public import proofs.«01_k».proof.Proof.Value.Tables
public import proofs.«01_k».proof.Proof.Value.Rates
public import proofs.«01_k».proof.Proof.Value.Open

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.SL Idealize.SL.RA
open Idealize.SL.Sem
open Cert.KernelIdeal.Own Cert.KernelIdeal.K2 Cert.KernelIdeal.Pay
open Idealize.ShloMosaic.Pipeline (Dat)

/-- A point's batch row, head and chunk. -/
def bt (t : Fin cfg2.N) : Fin 2 := ⟨t.val / 2 % 2, by omega⟩
def hd (t : Fin cfg2.N) : Fin 4 := ⟨t.val / 4, by have h : t.val < 16 := t.isLt; omega⟩
def ck (t : Fin cfg2.N) : Fin 2 := ⟨t.val % 2, by omega⟩

theorem idx2 : ∀ t : Fin cfg2.N,
    win2_0.index t = ![t.val / 2 % 2, t.val % 2, t.val / 4] ∧ win2_1.index t = ![t.val / 2 % 2, t.val % 2, t.val / 4]
    ∧ win2_2.index t = ![t.val / 2 % 2, t.val % 2, t.val / 4] ∧ win2_3.index t = ![t.val / 2 % 2, t.val / 4, t.val % 2, 0]
    ∧ win2_4.index t = ![t.val % 2, 0] ∧ win2_5.index t = ![t.val % 2, 0]
    ∧ win2_6.index t = ![t.val / 4, 0, 0] ∧ win2_7.index t = ![t.val / 4, 0, 0] ∧ win2_8.index t = ![t.val / 4, 0, 0]
    ∧ win2_9.index t = ![0, t.val / 4] ∧ win2_10.index t = ![0, t.val / 4]
    ∧ win2_11.index t = ![0, 0] ∧ win2_12.index t = ![0, 0] ∧ win2_13.index t = ![0, 0]
    ∧ win2_14.index t = ![t.val / 2 % 2, t.val % 2, t.val / 4] :=
  (by decide +kernel : ∀ t : Fin grid2.N, _)

variable (m : (ℓ : Loc nD τ sig) → Buf (Elt Ideal) ℓ) (c : Dev nD)

/-- The buffers as the main call finds them. -/
abbrev VV : (c : Dev nD) → (b : Ref sig .tc) → Buf (Elt Ideal) ((c : Thread nD τ).loc b) := Ve2 m (outs m)

/-- What the first two calls do not write, the main call finds as the host operations leave it. -/
theorem kept (r : Ref sig .tc) (h2 : r ∉ ([main_call0_v17_0, main_call0_v17_1] : List (Ref sig .tc))) (h3 : r ∉ ([main_call0_v18] : List (Ref sig .tc))) :
    V3 m (outs m) c (Proc.devRef .tc r) = V1 m c (Proc.devRef .tc r) :=
  (V3_of m (outs m) c r h3).trans (V2_of m (outs m) c r h2)

theorem cos_found : V3 m (outs m) c (Proc.devRef .tc main_call0_v17_0) = cosTab m c :=
  (V3_of m (outs m) c main_call0_v17_0 (by decide)).trans ((V2_at_main_call0_v17_0 m (outs m) c).trans ((outs_v17_0 m c).trans (cos_eq m c)))
theorem sin_found : V3 m (outs m) c (Proc.devRef .tc main_call0_v17_1) = sinTab m c :=
  (V3_of m (outs m) c main_call0_v17_1 (by decide)).trans ((V2_at_main_call0_v17_1 m (outs m) c).trans ((outs_v17_1 m c).trans (sin_eq m c)))
theorem rate_found : V3 m (outs m) c (Proc.devRef .tc main_call0_v18) = rateTab m c :=
  (V3_at_main_call0_v18 m (outs m) c).trans ((outs_v18 m c).trans (rate_eq m c))

variable (t : Fin cfg2.N)

theorem lane_head (h : Fin 4) (d : Fin 512) (p : (h.val * 256 + (lane d).val) / 128 < 8) : (⟨(h.val * 256 + (lane d).val) / 128, p⟩ : Fin 8) = Spec.khead h d :=
  Fin.ext (show (h.val * 256 + (d.val / 256 * 128 + d.val % 128)) / 128 = h.val * 2 + d.val / 256 by omega)
theorem lane_lane (h : Fin 4) (d : Fin 512) (p : (h.val * 256 + (lane d).val) % 128 < 128) : (⟨(h.val * 256 + (lane d).val) % 128, p⟩ : Fin 128) = Spec.lane128 d :=
  Fin.ext (show (h.val * 256 + (d.val / 256 * 128 + d.val % 128)) % 128 = d.val % 128 by omega)

theorem b0_at (r : Fin 2048) (d : Fin 512) : B0 (VV m) c t (ix3 0 r d) = (args m c).q (ix4 (bt t) (Spec.tok (ck t) r) (Spec.qhead (hd t) d) (Spec.lane128 d)) := by
  refine Eq.trans ?_ ((congrFun (kept m c main_call0_v0 (by decide) (by decide)) _).trans ((v0_at m c (bt t) (Spec.tok (ck t) r) (Spec.col (hd t) d)).trans (by
    unfold Spec.col
    rw [Spec.qhead_eq, Spec.lane128_eq])))
  blk_point [B0, iblk, VV, Ve2, bt, hd, ck, Spec.tok, Spec.col, idx2 t]

theorem b1_at (r : Fin 2048) (d : Fin 512) : B1 (VV m) c t (ix3 0 r (lane d)) = (args m c).k (ix4 (bt t) (Spec.tok (ck t) r) (Spec.khead (hd t) d) (Spec.lane128 d)) := by
  refine Eq.trans ?_ ((congrFun (kept m c main_call0_v1 (by decide) (by decide)) _).trans ((v1_at m c (bt t) (Spec.tok (ck t) r) ⟨(hd t).val * 256 + (lane d).val, by omega⟩).trans (by
    rw [lane_head, lane_lane])))
  blk_point [B1, iblk, VV, Ve2, bt, hd, ck, Spec.tok, Spec.col, idx2 t]

theorem b2_at (r : Fin 2048) (d : Fin 512) : B2 (VV m) c t (ix3 0 r (lane d)) = (args m c).v (ix4 (bt t) (Spec.tok (ck t) r) (Spec.khead (hd t) d) (Spec.lane128 d)) := by
  refine Eq.trans ?_ ((congrFun (kept m c main_call0_v2 (by decide) (by decide)) _).trans ((v2_at m c (bt t) (Spec.tok (ck t) r) ⟨(hd t).val * 256 + (lane d).val, by omega⟩).trans (by
    rw [lane_head, lane_lane])))
  blk_point [B2, iblk, VV, Ve2, bt, hd, ck, Spec.tok, Spec.col, idx2 t]

theorem b3_at (r : Fin 2048) (i : Fin 3) : B3 (VV m) c t (ix4 0 0 r i) = Spec.rate (args m c) (bt t) (hd t) (Spec.tok (ck t) r) i := by
  refine Eq.trans ?_ (congrFun (rate_found m c) (ix4 (bt t) (hd t) (Spec.tok (ck t) r) i))
  blk_point [B3, iblk, VV, Ve2, bt, hd, ck, Spec.tok, Spec.col, idx2 t]

theorem b4_at (r : Fin 2048) (j : Fin 256) : B4 (VV m) c t (ix2 r j) = Ideal.cos (Spec.angle (args m c) (Spec.tok (ck t) r) j) := by
  refine Eq.trans ?_ (congrFun (cos_found m c) (ix2 (Spec.tok (ck t) r) j))
  blk_point [B4, iblk, VV, Ve2, bt, hd, ck, Spec.tok, Spec.col, idx2 t]

theorem b5_at (r : Fin 2048) (j : Fin 256) : B5 (VV m) c t (ix2 r j) = Ideal.sin (Spec.angle (args m c) (Spec.tok (ck t) r) j) := by
  refine Eq.trans ?_ (congrFun (sin_found m c) (ix2 (Spec.tok (ck t) r) j))
  blk_point [B5, iblk, VV, Ve2, bt, hd, ck, Spec.tok, Spec.col, idx2 t]

theorem b6_at (e d : Fin 512) : B6 (VV m) c t (ix3 0 e d) = (args m c).w0 (ix3 (hd t) e d) := by
  refine Eq.trans ?_ ((congrFun (kept m c main_arg5 (by decide) (by decide)) (ix3 (hd t) e d)).trans (congrFun (V1_of m c main_arg5 (by decide)) _))
  blk_point [B6, iblk, VV, Ve2, bt, hd, ck, Spec.tok, Spec.col, idx2 t]

theorem b7_at (e d : Fin 512) : B7 (VV m) c t (ix3 0 e d) = (args m c).w1 (ix3 (hd t) e d) := by
  refine Eq.trans ?_ ((congrFun (kept m c main_arg6 (by decide) (by decide)) (ix3 (hd t) e d)).trans (congrFun (V1_of m c main_arg6 (by decide)) _))
  blk_point [B7, iblk, VV, Ve2, bt, hd, ck, Spec.tok, Spec.col, idx2 t]

theorem b8_at (e d : Fin 512) : B8 (VV m) c t (ix3 0 e d) = (args m c).w2 (ix3 (hd t) e d) := by
  refine Eq.trans ?_ ((congrFun (kept m c main_arg7 (by decide) (by decide)) (ix3 (hd t) e d)).trans (congrFun (V1_of m c main_arg7 (by decide)) _))
  blk_point [B8, iblk, VV, Ve2, bt, hd, ck, Spec.tok, Spec.col, idx2 t]

theorem b9_at (i : Fin 2) (d : Fin 512) : B9 (VV m) c t (ix2 i d) = (args m c).sc (ix2 (Spec.col (hd t) d) i) := by
  refine Eq.trans ?_ ((congrFun (kept m c main_call0_v9 (by decide) (by decide)) _).trans (v9_at m c i (Spec.col (hd t) d)))
  blk_point [B9, iblk, VV, Ve2, bt, hd, ck, Spec.tok, Spec.col, idx2 t]

theorem b10_at (i : Fin 2) (d : Fin 512) : B10 (VV m) c t (ix2 i d) = (args m c).off (ix2 (Spec.col (hd t) d) i) := by
  refine Eq.trans ?_ ((congrFun (kept m c main_call0_v10 (by decide) (by decide)) _).trans (v10_at m c i (Spec.col (hd t) d)))
  blk_point [B10, iblk, VV, Ve2, bt, hd, ck, Spec.tok, Spec.col, idx2 t]

theorem b11_at (d : Fin 512) : B11 (VV m) c t (ix2 0 d) = (args m c).qn (ix1 d) := by
  refine Eq.trans ?_ ((congrFun (kept m c main_call0_v11 (by decide) (by decide)) _).trans (v11_at m c d))
  blk_point [B11, iblk, VV, Ve2, bt, hd, ck, Spec.tok, Spec.col, idx2 t]

theorem b12_at (d : Fin 512) : B12 (VV m) c t (ix2 0 d) = (args m c).kn (ix1 d) := by
  refine Eq.trans ?_ ((congrFun (kept m c main_call0_v12 (by decide) (by decide)) _).trans (v12_at m c d))
  blk_point [B12, iblk, VV, Ve2, bt, hd, ck, Spec.tok, Spec.col, idx2 t]

theorem b13_at (d : Fin 512) : B13 (VV m) c t (ix2 0 d) = (args m c).tn (ix1 d) := by
  refine Eq.trans ?_ ((congrFun (kept m c main_call0_v13 (by decide) (by decide)) _).trans (v13_at m c d))
  blk_point [B13, iblk, VV, Ve2, bt, hd, ck, Spec.tok, Spec.col, idx2 t]

/-! ## The chunks -/

theorem queries_at : Qt (VV m) c t = Spec.Q (args m c) (bt t) (hd t) (ck t) := by
  funext r
  unfold Qt Qb Spec.Q
  have e1 : (fun d => B0 (VV m) c t (ix3 0 r d) * B9 (VV m) c t (ix2 0 d) + B10 (VV m) c t (ix2 0 d)) = Spec.qrow (args m c) (bt t) (hd t) (Spec.tok (ck t) r) := by
    funext d
    rw [b0_at, b9_at, b10_at]
    rfl
  have e2 : row (B11 (VV m) c t) = fun d => (args m c).qn (ix1 d) := funext fun d => b11_at m c t d
  have e3 : half (B4 (VV m) c t) r = fun j => Ideal.cos (Spec.angle (args m c) (Spec.tok (ck t) r) j) := funext fun j => b4_at m c t r j
  have e4 : half (B5 (VV m) c t) r = fun j => Ideal.sin (Spec.angle (args m c) (Spec.tok (ck t) r) j) := funext fun j => b5_at m c t r j
  rw [e1, e2, e3, e4]

theorem keys_at : Kt (VV m) c t = Spec.K (args m c) (bt t) (hd t) (ck t) := by
  funext r
  unfold Kt Kb Spec.K
  have e1 : (fun d => B1 (VV m) c t (ix3 0 r (lane d)) * B9 (VV m) c t (ix2 1 d) + B10 (VV m) c t (ix2 1 d)) = Spec.krow (args m c) (bt t) (hd t) (Spec.tok (ck t) r) := by
    funext d
    rw [b1_at, b9_at, b10_at]
    rfl
  have e2 : row (B12 (VV m) c t) = fun d => (args m c).kn (ix1 d) := funext fun d => b12_at m c t d
  have e3 : half (B4 (VV m) c t) r = fun j => Ideal.cos (Spec.angle (args m c) (Spec.tok (ck t) r) j) := funext fun j => b4_at m c t r j
  have e4 : half (B5 (VV m) c t) r = fun j => Ideal.sin (Spec.angle (args m c) (Spec.tok (ck t) r) j) := funext fun j => b5_at m c t r j
  rw [e1, e2, e3, e4]

theorem values_at : Vt (VV m) c t = Spec.V (args m c) (bt t) (hd t) (ck t) := funext fun r => funext fun d => b2_at m c t r d
theorem rates_of (i : Fin 3) : Lb (B3 (VV m) c t) i = Spec.L (args m c) (bt t) (hd t) (ck t) i := funext fun r => b3_at m c t r i
theorem weights0 : Wb (B6 (VV m) c t) = Spec.M0 (args m c) (hd t) := funext fun e => funext fun d => b6_at m c t e d
theorem weights1 : Wb (B7 (VV m) c t) = Spec.M1 (args m c) (hd t) := funext fun e => funext fun d => b7_at m c t e d
theorem weights2 : Wb (B8 (VV m) c t) = Spec.M2 (args m c) (hd t) := funext fun e => funext fun d => b8_at m c t e d
theorem last_row : row (B13 (VV m) c t) = fun d => (args m c).tn (ix1 d) := funext fun d => b13_at m c t d

end Cert.KernelIdeal.Value

end
-- ==== Proof.Value.Out.lean ====
/-
  The kernel's result, as a function of the arguments.
-/
module

public import proofs.«01_k».proof.Proof.Value.Blocks

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.SL Idealize.SL.RA
open Idealize.SL.Sem
open Cert.KernelIdeal.Own Cert.KernelIdeal.K2 Cert.KernelIdeal.Pay
open Idealize.ShloMosaic.Pipeline (Dat)

variable (m : (ℓ : Loc nD τ sig) → Buf (Elt Ideal) ℓ) (c : Dev nD)

theorem even_at (t : Fin cfg2.N) (h : t.val % 2 = 0) (u : Fin 1) (r : Fin 2048) (d : Fin 512) :
    oA (Ix := Unit) (U := UR sig nD τ) (Lvl := ℕ) Variants.none (VV m) c t h (ix3 u r d)
      = Spec.rms (Spec.O (args m c) (bt t) (hd t) (ck t) r) (fun d => (args m c).tn (ix1 d)) d := by
  have e : ck t = 0 := Fin.ext h
  refine (oA_at Variants.none (VV m) c t h u r d).trans ?_
  rw [queries_at, weights0, weights1, weights2, last_row]
  unfold Spec.O
  rw [if_pos e]

theorem odd_at (t : Fin cfg2.N) (h : ¬t.val % 2 = 0) (p : Fin cfg2.N) (hp : p.val = t.val - 1) (h' : p.val % 2 = 0) (u : Fin 1) (r : Fin 2048) (d : Fin 512) :
    oB (Ix := Unit) (U := UR sig nD τ) (Lvl := ℕ) Variants.none (VV m) c t h
        (sA0 (Ix := Unit) (U := UR sig nD τ) (Lvl := ℕ) Variants.none (VV m) c p h')
        (sA1 (Ix := Unit) (U := UR sig nD τ) (Lvl := ℕ) Variants.none (VV m) c p h')
        (sA2 (Ix := Unit) (U := UR sig nD τ) (Lvl := ℕ) Variants.none (VV m) c p h') (ix3 u r d)
      = Spec.rms (Spec.O (args m c) (bt t) (hd t) (ck t) r) (fun d => (args m c).tn (ix1 d)) d := by
  have e : ¬ck t = 0 := fun he => h (congrArg Fin.val he)
  have eb : bt p = bt t := Fin.ext (show p.val / 2 % 2 = t.val / 2 % 2 by omega)
  have eh : hd p = hd t := Fin.ext (show p.val / 4 = t.val / 4 by omega)
  have ec : ck p = 0 := Fin.ext h'
  refine (oB_at Variants.none (VV m) c t h _ _ _ u r d).trans ?_
  rw [sA0_eq, sA1_eq, sA2_eq, queries_at, keys_at, values_at, rates_of, rates_of, rates_of, weights0, weights1, weights2, last_row, eb, eh, ec]
  unfold Spec.O
  rw [if_neg e]
  rfl

theorem after_at (t : Fin cfg2.N) (u : Fin 1) (r : Fin 2048) (d : Fin 512) :
    (show FVec Ideal S1x2048x512 .f32 from outAt (Ix := Unit) (U := UR sig nD τ) (Lvl := ℕ) Variants.none (VV m) c t) (ix3 u r d)
      = Spec.rms (Spec.O (args m c) (bt t) (hd t) (ck t) r) (fun d => (args m c).tn (ix1 d)) d := by
  by_cases h : t.val % 2 = 0
  · refine Eq.trans (congrFun (dif_pos h) _) ?_
    exact even_at m c t h u r d
  · refine Eq.trans (congrFun (dif_neg h) _) ?_
    exact odd_at m c t h _ rfl _ u r d

/-- The result array. -/
theorem out_eq : (K2.dat (Ix := Unit) (U := UR sig nD τ) (Lvl := ℕ) Variants.none (VV m) D₀ c).arrAt 14 cfg2.N = Spec.result (args m c) := by
  refine Dat.arrAt_eq_of_covers _ 14 _ (by decide +kernel) fun t _ y => ?_
  have ht : t.val < 16 := t.isLt
  blk_simp
  rw [after2_14]
  obtain ⟨u, r, d, rfl⟩ : ∃ (u : Fin 1) (r : Fin 2048) (d : Fin 512), y = ix3 u r d := ⟨y 0, y 1, y 2, eq_ix3 y⟩
  refine (after_at m c t u r d).trans ?_
  have e : ((View.whole main_v0).slice (win2_14.rect t)).emb (ix3 u r d) = ix3 (bt t) (Spec.tok (ck t) r) (Spec.col (hd t) d) := by
    blk_ext [bt, ck, hd, Spec.tok, Spec.col, idx2 t]
  refine Eq.trans ?_ ((congrArg (Spec.result (args m c)) e).trans (Spec.result_at _ _ _ _)).symm
  have e1 : ∀ q, (⟨(Spec.col (hd t) d).val / 512, q⟩ : Fin 4) = hd t := fun q => Fin.ext (show (t.val / 4 * 512 + d.val) / 512 = t.val / 4 by omega)
  have e2 : ∀ q, (⟨(Spec.tok (ck t) r).val / 2048, q⟩ : Fin 2) = ck t := fun q => Fin.ext (show (t.val % 2 * 2048 + r.val) / 2048 = t.val % 2 by omega)
  have e3 : ∀ q, (⟨(Spec.tok (ck t) r).val % 2048, q⟩ : Fin 2048) = r := fun q => Fin.ext (show (t.val % 2 * 2048 + r.val) % 2048 = r.val by omega)
  have e4 : ∀ q, (⟨(Spec.col (hd t) d).val % 512, q⟩ : Fin 512) = d := fun q => Fin.ext (show (t.val / 4 * 512 + d.val) % 512 = d.val by omega)
  rw [e1, e2, e3, e4]

end Cert.KernelIdeal.Value

end
-- ==== Proof.Value.RefRows.lean ====
/-
  The reference's rows: its queries, keys, rotary tables and learning rates, read at an index.
-/
module

public import proofs.«01_k».proof.Proof.Gen.ReferenceIdeal.Run
public import proofs.«01_k».proof.Proof.Value.Args

@[expose] public section

set_option maxRecDepth 16384

noncomputable section

namespace Cert.ReferenceIdeal.Value

open Idealize.ShloMosaic Idealize.ShloMosaic.TcCoe Idealize.ShloMosaic.StableHlo
open Cert.ReferenceIdeal Cert.ReferenceIdeal.Gen
open Cert.Spec (Args Row Half Chunk Weight)

variable (V0 : Valuation τ sig (Elt Ideal))

/-- The arguments that a valuation holds. -/
def args : Args where
  q := V0 (Proc.devRef .tc main_arg0)
  k := V0 (Proc.devRef .tc main_arg1)
  v := V0 (Proc.devRef .tc main_arg2)
  hs := V0 (Proc.devRef .tc main_arg3)
  pos := V0 (Proc.devRef .tc main_arg4)
  w0 := V0 (Proc.devRef .tc main_arg5)
  w1 := V0 (Proc.devRef .tc main_arg6)
  w2 := V0 (Proc.devRef .tc main_arg7)
  lw := V0 (Proc.devRef .tc main_arg8)
  lb := V0 (Proc.devRef .tc main_arg9)
  sc := V0 (Proc.devRef .tc main_arg10)
  off := V0 (Proc.devRef .tc main_arg11)
  qn := V0 (Proc.devRef .tc main_arg12)
  kn := V0 (Proc.devRef .tc main_arg13)
  tn := V0 (Proc.devRef .tc main_arg14)

abbrev T4 := FVec Ideal S2x4096x4x512 .f32

theorem v27_at (b : Fin 2) (s : Fin 4096) (h : Fin 4) (d : Fin 512) :
    (show T4 from res_main_v27 V0) (ix4 b s h d) = Spec.qrow (args V0) b h s d := by
  pointwise [res_main_v27, Spec.qrow, args]
  rw [Spec.qhead_eq, Spec.lane128_eq]
  rfl

theorem v28_at (b : Fin 2) (s : Fin 4096) (h : Fin 4) (d : Fin 512) :
    (show T4 from res_main_v28 V0) (ix4 b s h d) = Spec.krow (args V0) b h s d := by
  pointwise [res_main_v28, Spec.krow, args]
  rw [Spec.khead_eq, Spec.lane128_eq]
  rfl

theorem v42_at (b : Fin 2) (s : Fin 4096) (h : Fin 4) (d : Fin 512) :
    (show T4 from res_main_v42 V0) (ix4 b s h d) = Spec.act (fun d => (show T4 from res_main_v27 V0) (ix4 b s h d)) (fun d => (args V0).qn (ix1 d)) d := by
  pointwise [res_main_v42, res_main_v41, Spec.act, Spec.silu, Spec.rms, args]
  rfl

theorem v56_at (b : Fin 2) (s : Fin 4096) (h : Fin 4) (d : Fin 512) :
    (show T4 from res_main_v56 V0) (ix4 b s h d) = Spec.act (fun d => (show T4 from res_main_v28 V0) (ix4 b s h d)) (fun d => (args V0).kn (ix1 d)) d := by
  pointwise [res_main_v56, res_main_v55, Spec.act, Spec.silu, Spec.rms, args]
  rfl

theorem v73_at (b : Fin 2) (s : Fin 4096) (j : Fin 256) :
    (show FVec Ideal S2x4096x256 .f32 from res_main_v73 V0) (ix3 b s j) = (((args V0).pos (ix2 b s)).toInt : ℝ) * Spec.freq j := by
  pointwise [res_main_v73, Spec.freq, args]
  rfl

theorem v104_at (b : Fin 2) (s : Fin 4096) (i : Fin 3) (h : Fin 4) (u : Fin 1) :
    (show FVec Ideal S2x4096x3x4x1 .f32 from res_main_v104 V0) (ix5 b s i h u) = Spec.rate (args V0) b h s i := by
  pointwise [res_main_v104, res_main_call2_v3, res_main_call2_cst, res_main_v102, Spec.rate, Spec.softplus, args]
  rw [if_neg (fun h => h rfl)]
  rfl

end Cert.ReferenceIdeal.Value

end
-- ==== Proof.Value.RefChunks.lean ====
/-
  The reference's chunks: the roped queries and keys, the values and the learning rates, head by head.
-/
module

public import proofs.«01_k».proof.Proof.Value.RefRows

@[expose] public section

set_option maxRecDepth 16384

noncomputable section

namespace Cert.ReferenceIdeal.Value

open Idealize.ShloMosaic Idealize.ShloMosaic.TcCoe Idealize.ShloMosaic.StableHlo
open Cert.ReferenceIdeal Cert.ReferenceIdeal.Gen
open Cert.Spec (Args Row Half Chunk Weight)

variable (V0 : Valuation τ sig (Elt Ideal))

/-- The reference's rotary step on a row. -/
theorem rope_eq (x : Row) (a : Half) (d : Fin 512) (y : EReal) (t : EReal)
    (hy : y = if h : d.val < 256 then -x ⟨256 + d.val, by omega⟩ else x ⟨d.val - 256, by omega⟩)
    (ht : t = if h : d.val < 256 then a ⟨d.val, h⟩ else a ⟨d.val - 256, by omega⟩) :
    x d * Ideal.cos t + y * Ideal.sin t = Spec.rope x (fun j => Ideal.cos (a j)) (fun j => Ideal.sin (a j)) d := by
  subst hy ht
  unfold Spec.rope
  by_cases h : d.val < 256
  · simp only [dif_pos h]
    rw [EReal.neg_mul, ← sub_eq_add_neg]
  · simp only [dif_neg h]

theorem v122_at (n : Fin 2) (b : Fin 2) (h : Fin 4) (r : Fin 2048) (d : Fin 512) :
    (show FVec Ideal S2x2x4x2048x512 .f32 from res_main_v122 V0) (ix5 n b h r d)
      = Spec.rope (fun d => (show T4 from res_main_v42 V0) (ix4 b (Spec.tok n r) h d))
          (fun j => Ideal.cos ((show FVec Ideal S2x4096x256 .f32 from res_main_v73 V0) (ix3 b (Spec.tok n r) j)))
          (fun j => Ideal.sin ((show FVec Ideal S2x4096x256 .f32 from res_main_v73 V0) (ix3 b (Spec.tok n r) j))) d := by
  refine Eq.trans ?_ (rope_eq (fun d => (show T4 from res_main_v42 V0) (ix4 b (Spec.tok n r) h d)) (fun j => (show FVec Ideal S2x4096x256 .f32 from res_main_v73 V0) (ix3 b (Spec.tok n r) j)) d _ _ rfl rfl)
  pointwise [res_main_v122, res_main_v76, res_main_v78, res_main_v74]
  rfl

theorem v125_at (n : Fin 2) (b : Fin 2) (h : Fin 4) (r : Fin 2048) (d : Fin 512) :
    (show FVec Ideal S2x2x4x2048x512 .f32 from res_main_v125 V0) (ix5 n b h r d)
      = Spec.rope (fun d => (show T4 from res_main_v56 V0) (ix4 b (Spec.tok n r) h d))
          (fun j => Ideal.cos ((show FVec Ideal S2x4096x256 .f32 from res_main_v73 V0) (ix3 b (Spec.tok n r) j)))
          (fun j => Ideal.sin ((show FVec Ideal S2x4096x256 .f32 from res_main_v73 V0) (ix3 b (Spec.tok n r) j))) d := by
  refine Eq.trans ?_ (rope_eq (fun d => (show T4 from res_main_v56 V0) (ix4 b (Spec.tok n r) h d)) (fun j => (show FVec Ideal S2x4096x256 .f32 from res_main_v73 V0) (ix3 b (Spec.tok n r) j)) d _ _ rfl rfl)
  pointwise [res_main_v125, res_main_v76, res_main_v78, res_main_v74]
  rfl

theorem v128_at (n : Fin 2) (b : Fin 2) (h : Fin 4) (r : Fin 2048) (d : Fin 512) :
    (show FVec Ideal S2x2x4x2048x512 .f32 from res_main_v128 V0) (ix5 n b h r d) = Spec.V (args V0) b h n r d := by
  pointwise [res_main_v128, Spec.V, args]
  rfl

theorem v109_at (n : Fin 2) (b : Fin 2) (h : Fin 4) (r : Fin 2048) (u : Fin 1) :
    (show FVec Ideal S2x2x4x2048x1 .f32 from res_main_v109 V0) (ix5 n b h r u) = (show FVec Ideal S2x4096x3x4x1 .f32 from res_main_v104 V0) (ix5 b (Spec.tok n r) 0 h 0) := by
  pointwise [res_main_v109]
  rfl

theorem v114_at (n : Fin 2) (b : Fin 2) (h : Fin 4) (r : Fin 2048) (u : Fin 1) :
    (show FVec Ideal S2x2x4x2048x1 .f32 from res_main_v114 V0) (ix5 n b h r u) = (show FVec Ideal S2x4096x3x4x1 .f32 from res_main_v104 V0) (ix5 b (Spec.tok n r) 1 h 0) := by
  pointwise [res_main_v114]
  rfl

theorem v119_at (n : Fin 2) (b : Fin 2) (h : Fin 4) (r : Fin 2048) (u : Fin 1) :
    (show FVec Ideal S2x2x4x2048x1 .f32 from res_main_v119 V0) (ix5 n b h r u) = (show FVec Ideal S2x4096x3x4x1 .f32 from res_main_v104 V0) (ix5 b (Spec.tok n r) 2 h 0) := by
  pointwise [res_main_v119]
  rfl

/-- The position ids of every batch row are those of the first. -/
def RowsAgree : Prop := ∀ (b : Fin 2) (s : Fin 4096), (args V0).pos (ix2 b s) = (args V0).pos (ix2 0 s)

variable {V0}

theorem angle_eq (hp : RowsAgree V0) (b : Fin 2) (s : Fin 4096) (j : Fin 256) :
    (show FVec Ideal S2x4096x256 .f32 from res_main_v73 V0) (ix3 b s j) = Spec.angle (args V0) s j := by
  rw [v73_at, hp b s]
  rfl

theorem q_eq (hp : RowsAgree V0) (n : Fin 2) (b : Fin 2) (h : Fin 4) (r : Fin 2048) (d : Fin 512) :
    res_main_v122 V0 (ix5 n b h r d) = Spec.Q (args V0) b h n r d := by
  refine (v122_at V0 n b h r d).trans ?_
  unfold Spec.Q
  simp only [angle_eq hp, v42_at, v27_at]

theorem k_eq (hp : RowsAgree V0) (n : Fin 2) (b : Fin 2) (h : Fin 4) (r : Fin 2048) (d : Fin 512) :
    res_main_v125 V0 (ix5 n b h r d) = Spec.K (args V0) b h n r d := by
  refine (v125_at V0 n b h r d).trans ?_
  unfold Spec.K
  simp only [angle_eq hp, v56_at, v28_at]

theorem l0_eq (n : Fin 2) (b : Fin 2) (h : Fin 4) (r : Fin 2048) :
    res_main_v109 V0 (ix5 n b h r 0) = Spec.L (args V0) b h n 0 r := (v109_at V0 n b h r 0).trans (v104_at V0 b _ 0 h 0)
theorem l1_eq (n : Fin 2) (b : Fin 2) (h : Fin 4) (r : Fin 2048) :
    res_main_v114 V0 (ix5 n b h r 0) = Spec.L (args V0) b h n 1 r := (v114_at V0 n b h r 0).trans (v104_at V0 b _ 1 h 0)
theorem l2_eq (n : Fin 2) (b : Fin 2) (h : Fin 4) (r : Fin 2048) :
    res_main_v119 V0 (ix5 n b h r 0) = Spec.L (args V0) b h n 2 r := (v119_at V0 n b h r 0).trans (v104_at V0 b _ 2 h 0)
theorem v_eq (n : Fin 2) (b : Fin 2) (h : Fin 4) (r : Fin 2048) (d : Fin 512) :
    res_main_v128 V0 (ix5 n b h r d) = Spec.V (args V0) b h n r d := v128_at V0 n b h r d

end Cert.ReferenceIdeal.Value

end
-- ==== Proof.Value.RefNet.lean ====
/-
  The reference's fast-weight network: the first chunk, the weight updates, the second chunk.
-/
module

public import proofs.«01_k».proof.Proof.Value.RefChunks

@[expose] public section

set_option maxRecDepth 16384

noncomputable section

namespace Cert.ReferenceIdeal.Value

open Idealize.ShloMosaic Idealize.ShloMosaic.TcCoe Idealize.ShloMosaic.StableHlo
open Cert.ReferenceIdeal Cert.ReferenceIdeal.Gen
open Cert.Spec (Args Row Half Chunk Weight)

variable {V0 : Valuation τ sig (Elt Ideal)}

theorem gk0_eq (hp : RowsAgree V0) (b : Fin 2) (h : Fin 4) (r : Fin 2048) (e : Fin 512) :
    res_main_v149 V0 (ix4 b h r e) = Spec.gate (Spec.K (args V0) b h 0) (Spec.M0 (args V0) h) r e := by
  pointwise [res_main_v149, res_main_v135, res_main_v129, Spec.gate, Spec.M0, args]
  simp only [k_eq hp]
  rfl

theorem hk0_eq (hp : RowsAgree V0) (b : Fin 2) (h : Fin 4) (r : Fin 2048) (e : Fin 512) :
    res_main_v150 V0 (ix4 b h r e) = Spec.gate (Spec.K (args V0) b h 0) (Spec.M2 (args V0) h) r e := by
  pointwise [res_main_v150, res_main_v135, res_main_v131, Spec.gate, Spec.M2, args]
  simp only [k_eq hp]
  rfl

theorem gq0_eq (hp : RowsAgree V0) (b : Fin 2) (h : Fin 4) (r : Fin 2048) (e : Fin 512) :
    res_main_v144 V0 (ix4 b h r e) = Spec.gate (Spec.Q (args V0) b h 0) (Spec.M0 (args V0) h) r e := by
  pointwise [res_main_v144, res_main_v133, res_main_v129, Spec.gate, Spec.M0, args]
  simp only [q_eq hp]
  rfl

theorem dhid0_eq (b : Fin 2) (h : Fin 4) (r : Fin 2048) (e : Fin 512) :
    res_main_v156 V0 (ix4 b h r e) = Spec.dhid (Spec.V (args V0) b h 0) (Spec.M1 (args V0) h) r e := by
  pointwise [res_main_v156, res_main_v137, res_main_v130, Spec.dhid, Spec.M1, args]
  simp only [v_eq]
  rfl

theorem w0_eq (hp : RowsAgree V0) (b : Fin 2) (h : Fin 4) (e d : Fin 512) :
    res_main_v179 V0 (ix4 b h e d) = Spec.N0 (args V0) b h e d := by
  pointwise [res_main_v179, res_main_v162, res_main_v129, res_main_v135]
  simp only [k_eq hp, gk0_eq hp, hk0_eq hp, dhid0_eq, l0_eq]
  rfl

theorem w1_eq (hp : RowsAgree V0) (b : Fin 2) (h : Fin 4) (d e : Fin 512) :
    res_main_v180 V0 (ix4 b h d e) = Spec.N1 (args V0) b h d e := by
  pointwise [res_main_v180, res_main_v130, res_main_v137]
  simp only [v_eq, gk0_eq hp, hk0_eq hp, l1_eq]
  rfl

theorem w2_eq (hp : RowsAgree V0) (b : Fin 2) (h : Fin 4) (e d : Fin 512) :
    res_main_v181 V0 (ix4 b h e d) = Spec.N2 (args V0) b h e d := by
  pointwise [res_main_v181, res_main_v131, res_main_v135]
  simp only [k_eq hp, gk0_eq hp, dhid0_eq, l2_eq]
  rfl

theorem gq1_eq (hp : RowsAgree V0) (b : Fin 2) (h : Fin 4) (r : Fin 2048) (e : Fin 512) :
    res_main_v194 V0 (ix4 b h r e) = Spec.gate (Spec.Q (args V0) b h 1) (Spec.N0 (args V0) b h) r e := by
  pointwise [res_main_v194, res_main_v183, Spec.gate]
  simp only [q_eq hp, w0_eq hp]

abbrev T4s := FVec Ideal S2x4x2048x512 .f32
abbrev W4 := FVec Ideal S2x4x512x512 .f32

/-- One chunk's outputs. -/
def netFn (g q : T4s) (W1 W2 : W4) : T4s :=
  Host.dotGeneral dot_S2x4x2048x512_S2x4x512x512_S2x4x2048x512_3_3_2_2_01_01 none (mulf (mulf g (Host.divf (broadcastInDim S2x4x2048x512 ![] bcast_S_S2x4x2048x512 (constant S_ .f32 0x3F800000#32)) (addf (broadcastInDim S2x4x2048x512 ![] bcast_S_S2x4x2048x512 (constant S_ .f32 0x3F800000#32)) (Host.exp (Host.negf g))))) (Host.dotGeneral dot_S2x4x2048x512_S2x4x512x512_S2x4x2048x512_3_3_2_2_01_01 none q W2)) W1

theorem netFn_at (g q : T4s) (W1 W2 : W4) (b : Fin 2) (h : Fin 4) (r : Fin 2048) (d : Fin 512) (Q : Chunk) (M0 M1 M2 : Weight)
    (hg : ∀ r e, g (ix4 b h r e) = Spec.gate Q M0 r e) (hq : ∀ r d, q (ix4 b h r d) = Q r d)
    (h1 : ∀ d e, W1 (ix4 b h d e) = M1 d e) (h2 : ∀ d e, W2 (ix4 b h d e) = M2 d e) :
    netFn g q W1 W2 (ix4 b h r d) = Spec.net Q M0 M1 M2 r d := by
  pointwise [netFn]
  simp only [hg, hq, h1, h2]
  rfl

/-- The two chunks' outputs, side by side. -/
def bothFn (x y : T4s) : FVec Ideal S2x2x4x2048x512 .f32 :=
  concatenate S2x2x4x2048x512 0 [⟨S1x2x4x2048x512, (broadcastInDim S1x2x4x2048x512 ![1, 2, 3, 4] bcast_S2x4x2048x512_S1x2x4x2048x512_1_2_3_4 x)⟩, ⟨S1x2x4x2048x512, (broadcastInDim S1x2x4x2048x512 ![1, 2, 3, 4] bcast_S2x4x2048x512_S1x2x4x2048x512_1_2_3_4 y)⟩] concatenates_S1x2x4x2048x512_S1x2x4x2048x512_S2x2x4x2048x512_d0

theorem bothFn_at (x y : T4s) (n : Fin 2) (b : Fin 2) (h : Fin 4) (r : Fin 2048) (d : Fin 512) :
    bothFn x y (ix5 n b h r d) = if n.val < 1 then x (ix4 b h r d) else y (ix4 b h r d) := by
  pointwise [bothFn]
  rfl

/-- The chunks put back into the order of the tokens. -/
def orderFn (z : FVec Ideal S2x2x4x2048x512 .f32) : T4 :=
  transpose S2x4096x4x512 [0, 2, 1, 3] (shapeCast _ (transpose S2x4x2x2048x512 [1, 2, 0, 3, 4] z transposes_S2x2x4x2048x512_S2x4x2x2048x512_1_2_0_3_4) shapeCasts_S2x4x2x2048x512_S2x4x4096x512) transposes_S2x4x4096x512_S2x4096x4x512_0_2_1_3

theorem orderFn_at (z : FVec Ideal S2x2x4x2048x512 .f32) (b : Fin 2) (s : Fin 4096) (h : Fin 4) (d : Fin 512) :
    orderFn z (ix4 b s h d) = z (ix5 ⟨s.val / 2048, by omega⟩ b h ⟨s.val % 2048, by omega⟩ d) := by
  pointwise [orderFn]

theorem q0_eq (hp : RowsAgree V0) (b : Fin 2) (h : Fin 4) (r : Fin 2048) (d : Fin 512) :
    res_main_v133 V0 (ix4 b h r d) = Spec.Q (args V0) b h 0 r d := by
  pointwise [res_main_v133]
  exact q_eq hp 0 b h r d

theorem q1_eq (hp : RowsAgree V0) (b : Fin 2) (h : Fin 4) (r : Fin 2048) (d : Fin 512) :
    res_main_v183 V0 (ix4 b h r d) = Spec.Q (args V0) b h 1 r d := by
  pointwise [res_main_v183]
  exact q_eq hp 1 b h r d

theorem m1_eq (b : Fin 2) (h : Fin 4) (d e : Fin 512) :
    res_main_v130 V0 (ix4 b h d e) = Spec.M1 (args V0) h d e := by
  pointwise [res_main_v130]
  rfl

theorem m2_eq (b : Fin 2) (h : Fin 4) (d e : Fin 512) :
    res_main_v131 V0 (ix4 b h d e) = Spec.M2 (args V0) h d e := by
  pointwise [res_main_v131]
  rfl

theorem out_eq (hp : RowsAgree V0) (b : Fin 2) (s : Fin 4096) (h : Fin 4) (d : Fin 512) :
    (show T4 from res_main_v237 V0) (ix4 b s h d)
      = Spec.O (args V0) b h ⟨s.val / 2048, by omega⟩ ⟨s.val % 2048, by omega⟩ d := by
  have e0 : res_main_v237 V0 = orderFn (bothFn (netFn (res_main_v144 V0) (res_main_v133 V0) (res_main_v130 V0) (res_main_v131 V0))
      (netFn (res_main_v194 V0) (res_main_v183 V0) (res_main_v180 V0) (res_main_v181 V0))) := rfl
  refine (congrFun e0 _).trans ((orderFn_at _ b s h d).trans ((bothFn_at _ _ _ b h _ d).trans ?_))
  rw [netFn_at _ _ _ _ b h _ d _ _ _ _ (gq0_eq hp b h) (q0_eq hp b h) (m1_eq b h) (m2_eq b h),
    netFn_at _ _ _ _ b h _ d _ _ _ _ (gq1_eq hp b h) (q1_eq hp b h) (w1_eq hp b h) (w2_eq hp b h)]
  by_cases hs : s.val / 2048 < 1
  · have e : (⟨s.val / 2048, by omega⟩ : Fin 2) = 0 := Fin.ext (by show s.val / 2048 = 0; omega)
    rw [if_pos hs, e]
    rfl
  · have e : (⟨s.val / 2048, by omega⟩ : Fin 2) = 1 := Fin.ext (by show s.val / 2048 = 1; omega)
    rw [if_neg hs, e]
    rfl

/-- The last normalisation. -/
def resFn (o : T4) (w : FVec Ideal S512 .f32) : FVec Ideal S2x4096x2048 .f32 :=
  shapeCast S2x4096x2048 (mulf (broadcastInDim S2x4096x4x512 ![0, 1, 2, 3] bcast_S1x1x1x512_S2x4096x4x512_0_1_2_3 (broadcastInDim S1x1x1x512 ![3] bcast_S512_S1x1x1x512_3 w)) (mulf o (broadcastInDim S2x4096x4x512 ![0, 1, 2, 3] bcast_S2x4096x4x1_S2x4096x4x512_0_1_2_3 (Host.rsqrt (addf (Host.divf (broadcastInDim S2x4096x4x1 ![0, 1, 2] bcast_S2x4096x4_S2x4096x4x1_0_1_2 (Host.reduceAdd (mulf o o) (constant S_ .f32 0x00000000#32) reducesTo_S2x4096x4x512_S2x4096x4_d3 h_S_)) (broadcastInDim S2x4096x4x1 ![] bcast_S_S2x4096x4x1 (constant S_ .f32 0x44000000#32))) (broadcastInDim S2x4096x4x1 ![] bcast_S_S2x4096x4x1 (constant S_ .f32 0x358637BD#32))))))) shapeCasts_S2x4096x4x512_S2x4096x2048

theorem resFn_at (o : T4) (w : FVec Ideal S512 .f32) (b : Fin 2) (s : Fin 4096) (x : Fin 2048) :
    resFn o w (ix3 b s x) = Spec.rms (fun d => o (ix4 b s ⟨x.val / 512, by omega⟩ d)) (fun d => w (ix1 d)) ⟨x.val % 512, by omega⟩ := by
  pointwise [resFn, Spec.rms]

/-- The reference's result. -/
theorem result_eq (hp : RowsAgree V0) :
    resFn (res_main_v237 V0) (V0 (Proc.devRef .tc main_arg14)) = Spec.result (args V0) := by
  funext i
  obtain ⟨b, s, x, rfl⟩ : ∃ (b : Fin 2) (s : Fin 4096) (x : Fin 2048), i = ix3 b s x := ⟨i 0, i 1, i 2, eq_ix3 i⟩
  rw [resFn_at]
  exact congrArg (fun f : Row => Spec.rms f (fun d => (args V0).tn (ix1 d)) _) (funext fun d => out_eq hp _ _ _ d)

end Cert.ReferenceIdeal.Value

end
-- ==== Proof.Algebraic.lean ====
/-
  The two programs compute the same result where the rows of position ids agree.
-/
module

public import proofs.«01_k».proof.Defs
public import proofs.«01_k».proof.Proof.Frames
public import proofs.«01_k».proof.Proof.Value.Out
public import proofs.«01_k».proof.Proof.Value.RefNet

@[expose] public section

set_option maxRecDepth 16384

noncomputable section

namespace Cert.Proof

open Idealize.ShloMosaic Idealize.ShloMosaic.TcCoe Idealize.SL.Sem

/-- The side conditions of the precondition's operations. -/
theorem rows_facts : Cert.Pre_rows_agree.Facts where
  slices_S2x4096_S1x4096_0_0 := by decide
  bcast_S1x4096_S2x4096_0_1 := by decide

theorem cmpi_eq (a b : BitVec 32) (h : IntOp.cmpi .eq a b = 1#1) : a = b := by
  by_contra hne
  have e : (a == b) = false := by simp [hne]
  have h : BitVec.ofBool (a == b) = 1#1 := h
  rw [e] at h
  exact absurd h (by decide)

/-- The precondition, at an index. -/
theorem rows_at [Cert.Pre_rows_agree.Facts] (m : (ℓ : Loc Cert.KernelIdeal.nD Cert.KernelIdeal.τ Cert.KernelIdeal.sig) → Buf (Elt Ideal) ℓ)
    (h : Cert.Pre_KernelIdeal_rows_agree m) (c : Dev Cert.KernelIdeal.nD) (b : Fin 2) (s : Fin 4096) :
    (Cert.KernelIdeal.Value.args m c).pos (ix2 b s) = (Cert.KernelIdeal.Value.args m c).pos (ix2 0 s) := by
  have h := congrFun (h c) (ix2 b s)
  unfold Cert.Pre_rows_agree.fn at h
  pointwise at h
  exact cmpi_eq _ _ h

/-- The same arguments, read from the two programs' memories. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.args (StableHlo.launchContents m' c) = Cert.KernelIdeal.Value.args m c := by
  obtain ⟨h0, h1, h2, h3, h4, h5, h6, h7, h8, h9, h10, h11, h12, h13, h14⟩ := h
  exact Cert.Spec.Args.ext h0 h1 h2 h3 h4 h5 h6 h7 h8 h9 h10 h11 h12 h13 h14

theorem algebraic [Cert.Pre_rows_agree.Facts] : Cert.algebraic_KernelIdeal_ReferenceIdeal_pre_rows_agree := by
  intro m g m' g' hpre hagree
  refine ⟨fun c => Cert.Spec.result (Cert.KernelIdeal.Value.args m c), ?_, ?_⟩
  · exact (θ_run Cert.KernelIdeal.defs _ _).mono
      (fun _ h c => ⟨(h.1 c).2.trans (Cert.KernelIdeal.Value.out_eq m c), (h.1 c).1⟩) (Cert.KernelIdeal.K2.run m g)
  · refine (θ_run Cert.ReferenceIdeal.defs _ _).mono (fun _ h c => ⟨(h c).1.trans ?_, (h c).2⟩)
      (Cert.ReferenceIdeal.Value.run (F := Ideal) m' g')
    have e := args_eq m m' c (hagree c)
    have hp : Cert.ReferenceIdeal.Value.RowsAgree (StableHlo.launchContents m' c) := fun b s => by
      rw [e]
      exact rows_at m hpre c b s
    exact (Cert.ReferenceIdeal.Value.result_eq hp).trans (congrArg Cert.Spec.result e)

/-! ## The frames under the precondition -/

theorem frame_pi_rows [Cert.Pre_rows_agree.Facts] : Cert.quiescent_KernelIdeal_pre_rows_agree := fun m g _ => frame_pi m g trivial

theorem frame_ri_rows [Cert.Pre_rows_agree.Facts] : Cert.quiescent_ReferenceIdeal_pre_rows_agree := fun m g _ => frame_ri m g trivial

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Own.Kernel.RegionsD
public import proofs.«01_k».proof.Proof.Gen.Own.KernelIdeal.RegionsD
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, rows_facts,
    frame_p, frame_pi, @frame_pi_rows rows_facts, frame_ri, @frame_ri_rows rows_facts, preserves, @algebraic rows_facts⟩

end Cert.Proof

end
